-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v85_0)) (v1 : (c : Dev Cert.Kernel4Ideal.nD) → Buf (Elt Ideal) ((c.tc : Thread Cert.Kernel4Ideal.nD Cert.Kernel4Ideal.τ).loc Cert.Kernel4Ideal.main_v85_1)) (v2 : (c : Dev Cert.Kernel4Ideal.nD) → Buf (Elt Ideal) ((c.tc : Thread Cert.Kernel4Ideal.nD Cert.Kernel4Ideal.τ).loc Cert.Kernel4Ideal.main_v85_2)) (v3 : (c : Dev Cert.Kernel4Ideal.nD) → Buf (Elt Ideal) ((c.tc : Thread Cert.Kernel4Ideal.nD Cert.Kernel4Ideal.τ).loc Cert.Kernel4Ideal.main_v85_3)) (v4 : (c : Dev Cert.Kernel4Ideal.nD) → Buf (Elt Ideal) ((c.tc : Thread Cert.Kernel4Ideal.nD Cert.Kernel4Ideal.τ).loc Cert.Kernel4Ideal.main_v85_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v85_0) = v0 c
          ∧ r.2.mem ((c.tc : Thread Cert.Kernel4Ideal.nD Cert.Kernel4Ideal.τ).loc Cert.Kernel4Ideal.main_v85_1) = v1 c
          ∧ r.2.mem ((c.tc : Thread Cert.Kernel4Ideal.nD Cert.Kernel4Ideal.τ).loc Cert.Kernel4Ideal.main_v85_2) = v2 c
          ∧ r.2.mem ((c.tc : Thread Cert.Kernel4Ideal.nD Cert.Kernel4Ideal.τ).loc Cert.Kernel4Ideal.main_v85_3) = v3 c
          ∧ r.2.mem ((c.tc : Thread Cert.Kernel4Ideal.nD Cert.Kernel4Ideal.τ).loc Cert.Kernel4Ideal.main_v85_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v47) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def preserves_Kernel7_Kernel7Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Kernel.lean ====
abbrev S16x2048x256 : Shape := ⟨3, ![16, 2048, 256]⟩
abbrev S16x2048x64 : Shape := ⟨3, ![16, 2048, 64]⟩
abbrev S16x2048x12 : Shape := ⟨3, ![16, 2048, 12]⟩
abbrev S2x32x64 : Shape := ⟨3, ![2, 32, 64]⟩
abbrev S2x2048x256 : Shape := ⟨3, ![2, 2048, 256]⟩
abbrev S2x256x64 : Shape := ⟨3, ![2, 256, 64]⟩
abbrev S32x4 : Shape := ⟨2, ![32, 4]⟩
abbrev S512 : Shape := ⟨1, ![512]⟩
abbrev S4224 : Shape := ⟨1, ![4224]⟩
abbrev S128x128 : Shape := ⟨2, ![128, 128]⟩
abbrev S_ : Shape := ⟨0, ![]⟩
abbrev S16x2048x116 : Shape := ⟨3, ![16, 2048, 116]⟩
abbrev S16x2048x768 : Shape := ⟨3, ![16, 2048, 768]⟩
abbrev S4x32 : Shape := ⟨2, ![4, 32]⟩
abbrev S512x1 : Shape := ⟨2, ![512, 1]⟩
abbrev S4x512 : Shape := ⟨2, ![4, 512]⟩
abbrev S1x4x1x512 : Shape := ⟨4, ![1, 4, 1, 512]⟩
abbrev S1x4x256x512 : Shape := ⟨4, ![1, 4, 256, 512]⟩
abbrev S4x131072 : Shape := ⟨2, ![4, 131072]⟩
abbrev S4x130816 : Shape := ⟨2, ![4, 130816]⟩
abbrev S4x256x511 : Shape := ⟨3, ![4, 256, 511]⟩
abbrev S4x256x256 : Shape := ⟨3, ![4, 256, 256]⟩
abbrev S1x4x256x256 : Shape := ⟨4, ![1, 4, 256, 256]⟩
abbrev S3x4x256x256 : Shape := ⟨4, ![3, 4, 256, 256]⟩
abbrev S3x256x4x256 : Shape := ⟨4, ![3, 256, 4, 256]⟩
abbrev S3x256x1024 : Shape := ⟨3, ![3, 256, 1024]⟩
abbrev S4224x1 : Shape := ⟨2, ![4224, 1]⟩
abbrev S4x4224 : Shape := ⟨2, ![4, 4224]⟩
abbrev S1x4x1x4224 : Shape := ⟨4, ![1, 4, 1, 4224]⟩
abbrev S1x4x128x4224 : Shape := ⟨4, ![1, 4, 128, 4224]⟩
abbrev S4x540672 : Shape := ⟨2, ![4, 540672]⟩
abbrev S4x538624 : Shape := ⟨2, ![4, 538624]⟩
abbrev S4x128x4208 : Shape := ⟨3, ![4, 128, 4208]⟩
abbrev S4x128x2048 : Shape := ⟨3, ![4, 128, 2048]⟩
abbrev S4x128x8x256 : Shape := ⟨4, ![4, 128, 8, 256]⟩
abbrev S8x128x4x256 : Shape := ⟨4, ![8, 128, 4, 256]⟩
abbrev S8x128x1024 : Shape := ⟨3, ![8, 128, 1024]⟩
abbrev S2048x128 : Shape := ⟨2, ![2048, 128]⟩
abbrev S2x32x64x256 : Shape := ⟨4, ![2, 32, 64, 256]⟩
abbrev S32x64x256 : Shape := ⟨3, ![32, 64, 256]⟩
abbrev S1x32x64x256 : Shape := ⟨4, ![1, 32, 64, 256]⟩
abbrev S32x64x512 : Shape := ⟨3, ![32, 64, 512]⟩
abbrev S32x128x512 : Shape := ⟨3, ![32, 128, 512]⟩
abbrev S1x32x64 : Shape := ⟨3, ![1, 32, 64]⟩
abbrev S32x64 : Shape := ⟨2, ![32, 64]⟩
abbrev S32x128 : Shape := ⟨2, ![32, 128]⟩
abbrev S256x64 : Shape := ⟨2, ![256, 64]⟩
abbrev S1x256x64 : Shape := ⟨3, ![1, 256, 64]⟩
abbrev S256x128 : Shape := ⟨2, ![256, 128]⟩
abbrev S512x128 : Shape := ⟨2, ![512, 128]⟩
abbrev S1x2048x768 : Shape := ⟨3, ![1, 2048, 768]⟩
abbrev S1x2048x128 : Shape := ⟨3, ![1, 2048, 128]⟩
abbrev S1x128x1024 : Shape := ⟨3, ![1, 128, 1024]⟩
abbrev S1x256x256 : Shape := ⟨3, ![1, 256, 256]⟩
abbrev S8x80x256 : Shape := ⟨3, ![8, 80, 256]⟩
abbrev S1x128x128 : Shape := ⟨3, ![1, 128, 128]⟩
abbrev S64x128 : Shape := ⟨2, ![64, 128]⟩
abbrev S16x128 : Shape := ⟨2, ![16, 128]⟩
abbrev S80x128 : Shape := ⟨2, ![80, 128]⟩
abbrev S1x80x128 : Shape := ⟨3, ![1, 80, 128]⟩
abbrev S128x512 : Shape := ⟨2, ![128, 512]⟩
abbrev S1x128 : Shape := ⟨2, ![1, 128]⟩
abbrev S1x128x512 : Shape := ⟨3, ![1, 128, 512]⟩
abbrev S1x256x768 : Shape := ⟨3, ![1, 256, 768]⟩
abbrev S256x768 : Shape := ⟨2, ![256, 768]⟩
abbrev S256x256 : Shape := ⟨2, ![256, 256]⟩
abbrev S64x256 : Shape := ⟨2, ![64, 256]⟩
abbrev S64x1024 : Shape := ⟨2, ![64, 1024]⟩
abbrev S128x256 : Shape := ⟨2, ![128, 256]⟩
abbrev S16x256 : Shape := ⟨2, ![16, 256]⟩
abbrev S128x64 : Shape := ⟨2, ![128, 64]⟩
abbrev S128x1024 : Shape := ⟨2, ![128, 1024]⟩
abbrev S256 : Shape := ⟨1, ![256]⟩
abbrev S1x256 : Shape := ⟨2, ![1, 256]⟩
abbrev S32x256 : Shape := ⟨2, ![32, 256]⟩
abbrev S96x256 : Shape := ⟨2, ![96, 256]⟩
abbrev S80x256 : Shape := ⟨2, ![80, 256]⟩
abbrev S256x1024 : Shape := ⟨2, ![256, 1024]⟩
abbrev S1x256x1024 : Shape := ⟨3, ![1, 256, 1024]⟩
abbrev S1x80x256 : Shape := ⟨3, ![1, 80, 256]⟩

abbrev nBuf : Space → Nat
  | .hbm => 130
  | .vmem => 18
  | .smem => 0
  | _ => 0

abbrev hbmTy0_0 (i : Nat) : BufTy := match i % 128 with
  | 0 => ⟨S16x2048x256, .f32⟩
  | 1 => ⟨S16x2048x64, .f32⟩
  | 2 => ⟨S16x2048x64, .f32⟩
  | 3 => ⟨S16x2048x64, .f32⟩
  | 4 => ⟨S16x2048x64, .f32⟩
  | 5 => ⟨S16x2048x64, .f32⟩
  | 6 => ⟨S16x2048x64, .f32⟩
  | 7 => ⟨S16x2048x12, .f32⟩
  | 8 => ⟨S2x32x64, .f32⟩
  | 9 => ⟨S2x2048x256, .f32⟩
  | 10 => ⟨S2x256x64, .f32⟩
  | 11 => ⟨S32x4, .f32⟩
  | 12 => ⟨S512, .i32⟩
  | 13 => ⟨S512, .i1⟩
  | 14 => ⟨S512, .i32⟩
  | 15 => ⟨S512, .i1⟩
  | 16 => ⟨S512, .i32⟩
  | 17 => ⟨S512, .i1⟩
  | 18 => ⟨S4224, .i32⟩
  | 19 => ⟨S4224, .i1⟩
  | 20 => ⟨S128x128, .f32⟩
  | 21 => ⟨S_, .f32⟩
  | 22 => ⟨S16x2048x116, .f32⟩
  | 23 => ⟨S16x2048x768, .f32⟩
  | 24 => ⟨S4x32, .f32⟩
  | 25 => ⟨S_, .i32⟩
  | 26 => ⟨S512, .i32⟩
  | 27 => ⟨S512, .i32⟩
  | 28 => ⟨S512, .i32⟩
  | 29 => ⟨S512x1, .i32⟩
  | 30 => ⟨S4x512, .f32⟩
  | 31 => ⟨S1x4x1x512, .f32⟩
  | 32 => ⟨S1x4x256x512, .f32⟩
  | 33 => ⟨S4x131072, .f32⟩
  | 34 => ⟨S4x130816, .f32⟩
  | 35 => ⟨S4x256x511, .f32⟩
  | 36 => ⟨S4x256x256, .f32⟩
  | 37 => ⟨S4x32, .f32⟩
  | 38 => ⟨S_, .i32⟩
  | 39 => ⟨S512, .i32⟩
  | 40 => ⟨S512, .i32⟩
  | 41 => ⟨S512, .i32⟩
  | 42 => ⟨S512x1, .i32⟩
  | 43 => ⟨S4x512, .f32⟩
  | 44 => ⟨S1x4x1x512, .f32⟩
  | 45 => ⟨S1x4x256x512, .f32⟩
  | 46 => ⟨S4x131072, .f32⟩
  | 47 => ⟨S4x130816, .f32⟩
  | 48 => ⟨S4x256x511, .f32⟩
  | 49 => ⟨S4x256x256, .f32⟩
  | 50 => ⟨S4x32, .f32⟩
  | 51 => ⟨S_, .i32⟩
  | 52 => ⟨S512, .i32⟩
  | 53 => ⟨S512, .i32⟩
  | 54 => ⟨S512, .i32⟩
  | 55 => ⟨S512x1, .i32⟩
  | 56 => ⟨S4x512, .f32⟩
  | 57 => ⟨S1x4x1x512, .f32⟩
  | 58 => ⟨S1x4x256x512, .f32⟩
  | 59 => ⟨S4x131072, .f32⟩
  | 60 => ⟨S4x130816, .f32⟩
  | 61 => ⟨S4x256x511, .f32⟩
  | 62 => ⟨S4x256x256, .f32⟩
  | 63 => ⟨S1x4x256x256, .f32⟩
  | 64 => ⟨S1x4x256x256, .f32⟩
  | 65 => ⟨S1x4x256x256, .f32⟩
  | 66 => ⟨S3x4x256x256, .f32⟩
  | 67 => ⟨S3x256x4x256, .f32⟩
  | 68 => ⟨S3x256x1024, .f32⟩
  | 69 => ⟨S_, .f32⟩
  | 70 => ⟨S3x256x1024, .f32⟩
  | 71 => ⟨S3x256x1024, .f32⟩
  | 72 => ⟨S4x32, .f32⟩
  | 73 => ⟨S_, .i32⟩
  | 74 => ⟨S4224, .i32⟩
  | 75 => ⟨S4224, .i32⟩
  | 76 => ⟨S4224, .i32⟩
  | 77 => ⟨S4224x1, .i32⟩
  | 78 => ⟨S4x4224, .f32⟩
  | 79 => ⟨S1x4x1x4224, .f32⟩
  | 80 => ⟨S1x4x128x4224, .f32⟩
  | 81 => ⟨S4x540672, .f32⟩
  | 82 => ⟨S4x538624, .f32⟩
  | 83 => ⟨S4x128x4208, .f32⟩
  | 84 => ⟨S4x128x2048, .f32⟩
  | 85 => ⟨S4x128x8x256, .f32⟩
  | 86 => ⟨S8x128x4x256, .f32⟩
  | 87 => ⟨S8x128x1024, .f32⟩
  | 88 => ⟨S_, .f32⟩
  | 89 => ⟨S8x128x1024, .f32⟩
  | 90 => ⟨S8x128x1024, .f32⟩
  | 91 => ⟨S2048x128, .i32⟩
  | 92 => ⟨S_, .i32⟩
  | 93 => ⟨S2048x128, .i32⟩
  | 94 => ⟨S2048x128, .i32⟩
  | 95 => ⟨S2048x128, .i32⟩
  | 96 => ⟨S2048x128, .i1⟩
  | 97 => ⟨S_, .f32⟩
  | 98 => ⟨S_, .f32⟩
  | 99 => ⟨S2048x128, .f32⟩
  | 100 => ⟨S2048x128, .f32⟩
  | 101 => ⟨S2048x128, .f32⟩
  | 102 => ⟨S2048x128, .bf16⟩
  | 103 => ⟨S2x32x64x256, .f32⟩
  | 104 => ⟨S_, .f32⟩
  | 105 => ⟨S32x64x256, .f32⟩
  | 106 => ⟨S1x32x64x256, .f32⟩
  | 107 => ⟨S32x64x256, .f32⟩
  | 108 => ⟨S32x64x512, .f32⟩
  | 109 => ⟨S1x32x64x256, .f32⟩
  | 110 => ⟨S32x64x256, .f32⟩
  | 111 => ⟨S32x64x512, .f32⟩
  | 112 => ⟨S32x128x512, .f32⟩
  | 113 => ⟨S1x32x64, .f32⟩
  | 114 => ⟨S32x64, .f32⟩
  | 115 => ⟨S1x32x64, .f32⟩
  | 116 => ⟨S32x64, .f32⟩
  | 117 => ⟨S32x128, .f32⟩
  | 118 => ⟨S_, .f32⟩
  | 119 => ⟨S256x64, .f32⟩
  | 120 => ⟨S1x256x64, .f32⟩
  | 121 => ⟨S256x64, .f32⟩
  | 122 => ⟨S256x128, .f32⟩
  | 123 => ⟨S1x256x64, .f32⟩
  | 124 => ⟨S256x64, .f32⟩
  | 125 => ⟨S256x128, .f32⟩
  | 126 => ⟨S512x128, .f32⟩
  | 127 => ⟨S32x128x512, .bf16⟩
  | _ => ⟨S16x2048x256, .f32⟩

abbrev hbmTy0_1 (i : Nat) : BufTy := match i % 128 with
  | 0 => ⟨S512x128, .bf16⟩
  | 1 => ⟨S16x2048x256, .f32⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | .local _ .vmem, ⟨0, _⟩ => ⟨S1x2048x768, .f32⟩
  | .local _ .vmem, ⟨1, _⟩ => ⟨S1x2048x768, .f32⟩
  | .local _ .vmem, ⟨2, _⟩ => ⟨S1x2048x128, .f32⟩
  | .local _ .vmem, ⟨3, _⟩ => ⟨S1x2048x128, .f32⟩
  | .local _ .vmem, ⟨4, _⟩ => ⟨S32x128x512, .bf16⟩
  | .local _ .vmem, ⟨5, _⟩ => ⟨S32x128, .f32⟩
  | .local _ .vmem, ⟨6, _⟩ => ⟨S512x128, .bf16⟩
  | .local _ .vmem, ⟨7, _⟩ => ⟨S3x256x1024, .f32⟩
  | .local _ .vmem, ⟨8, _⟩ => ⟨S1x128x1024, .f32⟩
  | .local _ .vmem, ⟨9, _⟩ => ⟨S1x128x1024, .f32⟩
  | .local _ .vmem, ⟨10, _⟩ => ⟨S128x128, .f32⟩
  | .local _ .vmem, ⟨11, _⟩ => ⟨S2048x128, .bf16⟩
  | .local _ .vmem, ⟨12, _⟩ => ⟨S1x256x256, .f32⟩
  | .local _ .vmem, ⟨13, _⟩ => ⟨S1x256x256, .f32⟩
  | .local _ .vmem, ⟨14, _⟩ => ⟨S8x80x256, .bf16⟩
  | .local _ .vmem, ⟨15, _⟩ => ⟨S8x80x256, .bf16⟩
  | .local _ .vmem, ⟨16, _⟩ => ⟨S128x128, .f32⟩
  | .local _ .vmem, ⟨17, _⟩ => ⟨S128x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_c_5 : Ref sig .tc := ⟨.hbm, 18, rfl⟩
abbrev main_c_6 : Ref sig .tc := ⟨.hbm, 19, rfl⟩
abbrev main_cst : Ref sig .tc := ⟨.hbm, 20, rfl⟩
abbrev main_cst_7 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_c_8 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_9 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_cst_16 : Ref sig .tc := ⟨.hbm, 98, rfl⟩
abbrev main_call0_v0 : Ref sig .tc := ⟨.hbm, 99, rfl⟩
abbrev main_call0_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v5 : Index := Scalar.indexCast v1
  let c0_1 : Index := 0#32
  ![0, v5.toNat, 0]
@[reducible] def k0_t1_loop (i : grid0.Coords) : Scf.Loop 32 :=
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_73 : BitVec 32 := 1#32
  ⟨c0_i32_71, v546, c1_i32_73⟩
def k0_mult2 (i : grid0.Coords) (k0_t1 : Fin (k0_t1_loop i).trips) : BitVec 32 :=
  let c2_i32_108 : BitVec 32 := 2#32
  let c0_i32_71 : BitVec 32 := 0#32
  let c1_i32_73 : BitVec 32 := 1#32
  let arg16 : BitVec 32 := Scf.iv c0_i32_71 c1_i32_73 k0_t1
  let v681 : BitVec 32 := Scalar.muli c2_i32_108 arg16
  let c256_i32_109 : BitVec 32 := 256#32
  let v682 : BitVec 32 := Scalar.muli v681 c256_i32_109
  v682
def k0_off2 (i : grid0.Coords) (k0_t1 : Fin (k0_t1_loop i).trips) : Fin 3 → Nat :=
  let c0_110 : Index := 0#32
  let c2_i32_108 : BitVec 32 := 2#32
  let c0_i32_71 : BitVec 32 := 0#32
  let c1_i32_73 : BitVec 32 := 1#32
  let arg16 : BitVec 32 := Scf.iv c0_i32_71 c1_i32_73 k0_t1
  let v681 : BitVec 32 := Scalar.muli c2_i32_108 arg16
  let c256_i32_109 : BitVec 32 := 256#32
  let v682 : BitVec 32 := Scalar.muli v681 c256_i32_109
  let v683 : BitVec 32 := v682
  let v684 : Index := Scalar.indexCast v683
  let c384 : Index := 384#32
  ![0, v684.toNat, 384]
def k0_off3 (i : grid0.Coords) (k0_t1 : Fin (k0_t1_loop i).trips) : Fin 3 → Nat :=
  let arg1 : BitVec 32 := BitVec.ofNat 32 (i 1).val
  let c2_i32_108 : BitVec 32 := 2#32
  let c0_i32_71 : BitVec 32 := 0#32
  let c1_i32_73 : BitVec 32 := 1#32
  let arg16 : BitVec 32 := Scf.iv c0_i32_71 c1_i32_73 k0_t1
  let v681 : BitVec 32 := Scalar.muli c2_i32_108 arg16
  let v689 : BitVec 32 := Scalar.subi arg1 v681
  let c2_i32_112 : BitVec 32 := 2#32
  let v690 : BitVec 32 := Scalar.minsi v689 c2_i32_112
  let v691 : Index := Scalar.indexCast v690
  let c0_113 : Index := 0#32
  let c0_114 : Index := 0#32
  ![v691.toNat, 0, 0]
def k0_off4 (i : grid0.Coords) (k0_t1 : Fin (k0_t1_loop i).trips) : Fin 2 → Nat :=
  let c2_i32_108 : BitVec 32 := 2#32
  let c0_i32_71 : BitVec 32 := 0#32
  let c1_i32_73 : BitVec 32 := 1#32
  let arg16 : BitVec 32 := Scf.iv c0_i32_71 c1_i32_73 k0_t1
  let v681 : BitVec 32 := Scalar.muli c2_i32_108 arg16
  let c256_i32_109 : BitVec 32 := 256#32
  let v682 : BitVec 32 := Scalar.muli v681 c256_i32_109
  let v683 : BitVec 32 := v682
  let v695 : Index := Scalar.indexCast v683
  let c0_115 : Index := 0#32
  ![v695.toNat, 0]
def k0_off5 (i : grid0.Coords) (k0_t1 : Fin (k0_t1_loop i).trips) : Fin 3 → Nat :=
  let c2_i32_108 : BitVec 32 := 2#32
  let c0_i32_71 : BitVec 32 := 0#32
  let c1_i32_73 : BitVec 32 := 1#32
  let arg16 : BitVec 32 := Scf.iv c0_i32_71 c1_i32_73 k0_t1
  let v681 : BitVec 32 := Scalar.muli c2_i32_108 arg16
  let v705 : Index := Scalar.indexCast v681
  let c0_118 : Index := 0#32
  let c0_119 : Index := 0#32
  ![v705.toNat, 0, 0]
def k0_mult3 (i : grid0.Coords) (k0_t1 : Fin (k0_t1_loop i).trips) : BitVec 32 :=
  let c2_i32_106 : BitVec 32 := 2#32
  let c0_i32_71 : BitVec 32 := 0#32
  let c1_i32_73 : BitVec 32 := 1#32
  let arg16 : BitVec 32 := Scf.iv c0_i32_71 c1_i32_73 k0_t1
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  v880
def k0_off6 (i : grid0.Coords) (k0_t1 : Fin (k0_t1_loop i).trips) : Fin 3 → Nat :=
  let c0_153 : Index := 0#32
  let c2_i32_106 : BitVec 32 := 2#32
  let c0_i32_71 : BitVec 32 := 0#32
  let c1_i32_73 : BitVec 32 := 1#32
  let arg16 : BitVec 32 := Scf.iv c0_i32_71 c1_i32_73 k0_t1
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  let v881 : BitVec 32 := v880
  let v882 : Index := Scalar.indexCast v881
  let c384_154 : Index := 384#32
  ![0, v882.toNat, 384]
def k0_off7 (i : grid0.Coords) (k0_t1 : Fin (k0_t1_loop i).trips) : Fin 3 → Nat :=
  let arg1 : BitVec 32 := BitVec.ofNat 32 (i 1).val
  let c2_i32_106 : BitVec 32 := 2#32
  let c0_i32_71 : BitVec 32 := 0#32
  let c1_i32_73 : BitVec 32 := 1#32
  let arg16 : BitVec 32 := Scf.iv c0_i32_71 c1_i32_73 k0_t1
  let v679 : BitVec 32 := Scalar.muli c2_i32_106 arg16
  let c1_i32_107 : BitVec 32 := 1#32
  let v680 : BitVec 32 := Scalar.addi v679 c1_i32_107
  let v887 : BitVec 32 := Scalar.subi arg1 v680
  let c2_i32_156 : BitVec 32 := 2#32
  let v888 : BitVec 32 := Scalar.minsi v887 c2_i32_156
  let v889 : Index := Scalar.indexCast v888
  let c0_157 : Index := 0#32
  let c0_158 : Index := 0#32
  ![v889.toNat, 0, 0]
def k0_off8 (i : grid0.Coords) (k0_t1 : Fin (k0_t1_loop i).trips) : Fin 2 → Nat :=
  let c2_i32_106 : BitVec 32 := 2#32
  let c0_i32_71 : BitVec 32 := 0#32
  let c1_i32_73 : BitVec 32 := 1#32
  let arg16 : BitVec 32 := Scf.iv c0_i32_71 c1_i32_73 k0_t1
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  let v881 : BitVec 32 := v880
  let v893 : Index := Scalar.indexCast v881
  let c0_159 : Index := 0#32
  ![v893.toNat, 0]
def k0_off9 (i : grid0.Coords) (k0_t1 : Fin (k0_t1_loop i).trips) : Fin 3 → Nat :=
  let c2_i32_106 : BitVec 32 := 2#32
  let c0_i32_71 : BitVec 32 := 0#32
  let c1_i32_73 : BitVec 32 := 1#32
  let arg16 : BitVec 32 := Scf.iv c0_i32_71 c1_i32_73 k0_t1
  let v679 : BitVec 32 := Scalar.muli c2_i32_106 arg16
  let c1_i32_107 : BitVec 32 := 1#32
  let v680 : BitVec 32 := Scalar.addi v679 c1_i32_107
  let v903 : Index := Scalar.indexCast v680
  let c0_162 : Index := 0#32
  let c0_163 : Index := 0#32
  ![v903.toNat, 0, 0]
@[reducible] def k0_t2_loop (i : grid0.Coords) : Scf.Loop 32 :=
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let v543 : BitVec 32 := Scalar.addi c0_i32_71 v542
  let c1_i32_74 : BitVec 32 := 1#32
  ⟨v546, v543, c1_i32_74⟩
def k0_mult4 (i : grid0.Coords) (k0_t2 : Fin (k0_t2_loop i).trips) : BitVec 32 :=
  let c2_i32_108 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v681 : BitVec 32 := Scalar.muli c2_i32_108 arg16
  let c256_i32_109 : BitVec 32 := 256#32
  let v682 : BitVec 32 := Scalar.muli v681 c256_i32_109
  v682
def k0_off10 (i : grid0.Coords) (k0_t2 : Fin (k0_t2_loop i).trips) : Fin 3 → Nat :=
  let c0_110 : Index := 0#32
  let c2_i32_108 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v681 : BitVec 32 := Scalar.muli c2_i32_108 arg16
  let c256_i32_109 : BitVec 32 := 256#32
  let v682 : BitVec 32 := Scalar.muli v681 c256_i32_109
  let v683 : BitVec 32 := v682
  let v684 : Index := Scalar.indexCast v683
  let c384 : Index := 384#32
  ![0, v684.toNat, 384]
def k0_off11 (i : grid0.Coords) (k0_t2 : Fin (k0_t2_loop i).trips) : Fin 3 → Nat :=
  let arg1 : BitVec 32 := BitVec.ofNat 32 (i 1).val
  let c2_i32_108 : BitVec 32 := 2#32
  let c0_i32_71 : BitVec 32 := 0#32
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v681 : BitVec 32 := Scalar.muli c2_i32_108 arg16
  let v689 : BitVec 32 := Scalar.subi arg1 v681
  let c2_i32_112 : BitVec 32 := 2#32
  let v690 : BitVec 32 := Scalar.minsi v689 c2_i32_112
  let v691 : Index := Scalar.indexCast v690
  let c0_113 : Index := 0#32
  let c0_114 : Index := 0#32
  ![v691.toNat, 0, 0]
def k0_off12 (i : grid0.Coords) (k0_t2 : Fin (k0_t2_loop i).trips) : Fin 2 → Nat :=
  let c2_i32_108 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v681 : BitVec 32 := Scalar.muli c2_i32_108 arg16
  let c256_i32_109 : BitVec 32 := 256#32
  let v682 : BitVec 32 := Scalar.muli v681 c256_i32_109
  let v683 : BitVec 32 := v682
  let v695 : Index := Scalar.indexCast v683
  let c0_115 : Index := 0#32
  ![v695.toNat, 0]
def k0_off13 (i : grid0.Coords) (k0_t2 : Fin (k0_t2_loop i).trips) : Fin 3 → Nat :=
  let c2_i32_108 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v681 : BitVec 32 := Scalar.muli c2_i32_108 arg16
  let v705 : Index := Scalar.indexCast v681
  let c0_118 : Index := 0#32
  let c0_119 : Index := 0#32
  ![v705.toNat, 0, 0]
def k0_mult5 (i : grid0.Coords) (k0_t2 : Fin (k0_t2_loop i).trips) : BitVec 32 :=
  let c2_i32_106 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  v880
def k0_off14 (i : grid0.Coords) (k0_t2 : Fin (k0_t2_loop i).trips) : Fin 3 → Nat :=
  let c0_153 : Index := 0#32
  let c2_i32_106 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  let v881 : BitVec 32 := v880
  let v882 : Index := Scalar.indexCast v881
  let c384_154 : Index := 384#32
  ![0, v882.toNat, 384]
def k0_off15 (i : grid0.Coords) (k0_t2 : Fin (k0_t2_loop i).trips) : Fin 3 → Nat :=
  let arg1 : BitVec 32 := BitVec.ofNat 32 (i 1).val
  let c2_i32_106 : BitVec 32 := 2#32
  let c0_i32_71 : BitVec 32 := 0#32
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v679 : BitVec 32 := Scalar.muli c2_i32_106 arg16
  let c1_i32_107 : BitVec 32 := 1#32
  let v680 : BitVec 32 := Scalar.addi v679 c1_i32_107
  let v887 : BitVec 32 := Scalar.subi arg1 v680
  let c2_i32_156 : BitVec 32 := 2#32
  let v888 : BitVec 32 := Scalar.minsi v887 c2_i32_156
  let v889 : Index := Scalar.indexCast v888
  let c0_157 : Index := 0#32
  let c0_158 : Index := 0#32
  ![v889.toNat, 0, 0]
def k0_off16 (i : grid0.Coords) (k0_t2 : Fin (k0_t2_loop i).trips) : Fin 2 → Nat :=
  let c2_i32_106 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v679 : BitVec 32 := Scalar.muli c2_i32_106 arg16
  let c1_i32_107 : BitVec 32 := 1#32
  let v680 : BitVec 32 := Scalar.addi v679 c1_i32_107
  let c256_i32_152 : BitVec 32 := 256#32
  let v880 : BitVec 32 := Scalar.muli v680 c256_i32_152
  let v881 : BitVec 32 := v880
  let v893 : Index := Scalar.indexCast v881
  let c0_159 : Index := 0#32
  ![v893.toNat, 0]
def k0_off17 (i : grid0.Coords) (k0_t2 : Fin (k0_t2_loop i).trips) : Fin 3 → Nat :=
  let c2_i32_106 : BitVec 32 := 2#32
  let c0_i32_71 : BitVec 32 := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c0_i32_57 : BitVec 32 := 0#32
  let v518 : BitVec 1 := Scalar.cmpi .sgt v516 c0_i32_57
  let v519 : BitVec 32 := Scalar.extui v518
  let c0_i32_58 : BitVec 32 := 0#32
  let v520 : BitVec 1 := Scalar.cmpi .slt v516 c0_i32_58
  let v521 : BitVec 32 := Scalar.extui v520
  let v522 : BitVec 32 := Scalar.subi v519 v521
  let c2_i32_56 : BitVec 32 := 2#32
  let c0_i32_59 : BitVec 32 := 0#32
  let v523 : BitVec 1 := Scalar.cmpi .sgt c2_i32_56 c0_i32_59
  let v524 : BitVec 32 := Scalar.extui v523
  let c0_i32_60 : BitVec 32 := 0#32
  let v525 : BitVec 1 := Scalar.cmpi .slt c2_i32_56 c0_i32_60
  let v526 : BitVec 32 := Scalar.extui v525
  let v527 : BitVec 32 := Scalar.subi v524 v526
  let v528 : BitVec 1 := Scalar.cmpi .ne v522 v527
  let v529 : BitVec 32 := Scalar.remsi v516 c2_i32_56
  let c0_i32_61 : BitVec 32 := 0#32
  let v530 : BitVec 1 := Scalar.cmpi .ne v529 c0_i32_61
  let v531 : BitVec 1 := Scalar.andi v528 v530
  let v517 : BitVec 32 := Scalar.divsi v516 c2_i32_56
  let c1_i32_62 : BitVec 32 := 1#32
  let v532 : BitVec 32 := Scalar.subi v517 c1_i32_62
  let v533 : BitVec 32 := Scalar.select v531 v532 v517
  let v542 : BitVec 32 := Scalar.subi v533 c0_i32_71
  let c1_i32_72 : BitVec 32 := 1#32
  let v544 : BitVec 32 := Scalar.divsi v542 c1_i32_72
  let v545 : BitVec 32 := Scalar.muli v544 c1_i32_72
  let v546 : BitVec 32 := Scalar.addi c0_i32_71 v545
  let c1_i32_74 : BitVec 32 := 1#32
  let arg16 : BitVec 32 := Scf.iv v546 c1_i32_74 k0_t2
  let v679 : BitVec 32 := Scalar.muli c2_i32_106 arg16
  let c1_i32_107 : BitVec 32 := 1#32
  let v680 : BitVec 32 := Scalar.addi v679 c1_i32_107
  let v903 : Index := Scalar.indexCast v680
  let c0_162 : Index := 0#32
  let c0_163 : Index := 0#32
  ![v903.toNat, 0, 0]
def k0_cond2 (i : grid0.Coords) : BitVec 1 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c2_i32_75 : BitVec 32 := 2#32
  let c0_i32_76 : BitVec 32 := 0#32
  let v549 : BitVec 1 := Scalar.cmpi .eq c2_i32_75 c0_i32_76
  let c1_i32_77 : BitVec 32 := 1#32
  let v550 : BitVec 32 := Scalar.select v549 c1_i32_77 c2_i32_75
  let v551 : BitVec 32 := Scalar.remsi v516 v550
  let c0_i32_79 : BitVec 32 := 0#32
  let v553 : BitVec 1 := Scalar.cmpi .slt v551 c0_i32_79
  let c0_i32_80 : BitVec 32 := 0#32
  let v554 : BitVec 1 := Scalar.cmpi .slt v550 c0_i32_80
  let v555 : BitVec 1 := Scalar.xori v553 v554
  let c0_i32_78 : BitVec 32 := 0#32
  let v552 : BitVec 1 := Scalar.cmpi .ne v551 c0_i32_78
  let v556 : BitVec 1 := Scalar.andi v555 v552
  let v557 : BitVec 32 := Scalar.addi v551 v550
  let v558 : BitVec 32 := Scalar.select v556 v557 v551
  let c1_i32_81 : BitVec 32 := 1#32
  let v559 : BitVec 1 := Scalar.cmpi .eq v558 c1_i32_81
  let v560 : BitVec 32 := Scalar.extui v559
  let c0_i32_82 : BitVec 32 := 0#32
  let v561 : BitVec 1 := Scalar.cmpi .ne v560 c0_i32_82
  v561

def k0_mult6 (i : grid0.Coords) : BitVec 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_106 : BitVec 32 := 1#32
  let v679 : BitVec 32 := Scalar.subi v516 c1_i32_106
  let c256_i32_107 : BitVec 32 := 256#32
  let v680 : BitVec 32 := Scalar.muli v679 c256_i32_107
  v680
def k0_off18 (i : grid0.Coords) : Fin 3 → Nat :=
  let c0_108 : Index := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_106 : BitVec 32 := 1#32
  let v679 : BitVec 32 := Scalar.subi v516 c1_i32_106
  let c256_i32_107 : BitVec 32 := 256#32
  let v680 : BitVec 32 := Scalar.muli v679 c256_i32_107
  let v681 : BitVec 32 := v680
  let v682 : Index := Scalar.indexCast v681
  let c384 : Index := 384#32
  ![0, v682.toNat, 384]
def k0_off19 (i : grid0.Coords) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_106 : BitVec 32 := 1#32
  let v679 : BitVec 32 := Scalar.subi v516 c1_i32_106
  let v687 : BitVec 32 := Scalar.subi arg1 v679
  let c2_i32_110 : BitVec 32 := 2#32
  let v688 : BitVec 32 := Scalar.minsi v687 c2_i32_110
  let v689 : Index := Scalar.indexCast v688
  let c0_111 : Index := 0#32
  let c0_112 : Index := 0#32
  ![v689.toNat, 0, 0]
def k0_off20 (i : grid0.Coords) : Fin 2 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_106 : BitVec 32 := 1#32
  let v679 : BitVec 32 := Scalar.subi v516 c1_i32_106
  let c256_i32_107 : BitVec 32 := 256#32
  let v680 : BitVec 32 := Scalar.muli v679 c256_i32_107
  let v681 : BitVec 32 := v680
  let v693 : Index := Scalar.indexCast v681
  let c0_113 : Index := 0#32
  ![v693.toNat, 0]
def k0_off21 (i : grid0.Coords) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_106 : BitVec 32 := 1#32
  let v679 : BitVec 32 := Scalar.subi v516 c1_i32_106
  let v703 : Index := Scalar.indexCast v679
  let c0_116 : Index := 0#32
  let c0_117 : Index := 0#32
  ![v703.toNat, 0, 0]
@[reducible] def k0_t3_loop (i : grid0.Coords) : Scf.Loop 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_93 : BitVec 32 := 1#32
  ⟨v516, v576, c1_i32_93⟩
def k0_mult7 (i : grid0.Coords) (k0_t3 : Fin (k0_t3_loop i).trips) : BitVec 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let c256_i32_106 : BitVec 32 := 256#32
  let v679 : BitVec 32 := Scalar.muli arg16 c256_i32_106
  v679
def k0_off22 (i : grid0.Coords) (k0_t3 : Fin (k0_t3_loop i).trips) : Fin 3 → Nat :=
  let c0_107 : Index := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let c256_i32_106 : BitVec 32 := 256#32
  let v679 : BitVec 32 := Scalar.muli arg16 c256_i32_106
  let v680 : BitVec 32 := v679
  let v681 : Index := Scalar.indexCast v680
  let c384 : Index := 384#32
  ![0, v681.toNat, 384]
def k0_off23 (i : grid0.Coords) (k0_t3 : Fin (k0_t3_loop i).trips) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let v686 : BitVec 32 := Scalar.subi arg1 arg16
  let c2_i32_109 : BitVec 32 := 2#32
  let v687 : BitVec 32 := Scalar.minsi v686 c2_i32_109
  let v688 : Index := Scalar.indexCast v687
  let c0_110 : Index := 0#32
  let c0_111 : Index := 0#32
  ![v688.toNat, 0, 0]
def k0_off24 (i : grid0.Coords) (k0_t3 : Fin (k0_t3_loop i).trips) : Fin 2 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let c256_i32_106 : BitVec 32 := 256#32
  let v679 : BitVec 32 := Scalar.muli arg16 c256_i32_106
  let v680 : BitVec 32 := v679
  let v692 : Index := Scalar.indexCast v680
  let c0_112 : Index := 0#32
  ![v692.toNat, 0]
def k0_off25 (i : grid0.Coords) (k0_t3 : Fin (k0_t3_loop i).trips) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let v702 : Index := Scalar.indexCast arg16
  let c0_115 : Index := 0#32
  let c0_116 : Index := 0#32
  ![v702.toNat, 0, 0]
def k0_mult8 (i : grid0.Coords) (k0_t3 : Fin (k0_t3_loop i).trips) : BitVec 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let c256_i32_149 : BitVec 32 := 256#32
  let v877 : BitVec 32 := Scalar.muli arg16 c256_i32_149
  v877
def k0_off26 (i : grid0.Coords) (k0_t3 : Fin (k0_t3_loop i).trips) : Fin 3 → Nat :=
  let c0_150 : Index := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_93 : BitVec 32 := 1#32
  let arg16 : BitVec 32 := Scf.iv v516 c1_i32_93 k0_t3
  let c256_i32_149 : BitVec 32 := 256#32
  let v877 : BitVec 32 := Scalar.muli arg16 c256_i32_149
  let v878 : BitVec 32 := v877
  let v879 : Index := Scalar.indexCast v878
  let c512 : Index := 512#32
  ![0, v879.toNat, 512]
@[reducible] def k0_t4_loop (i : grid0.Coords) : Scf.Loop 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let v573 : BitVec 32 := Scalar.addi v516 v572
  let c1_i32_94 : BitVec 32 := 1#32
  ⟨v576, v573, c1_i32_94⟩
def k0_mult9 (i : grid0.Coords) (k0_t4 : Fin (k0_t4_loop i).trips) : BitVec 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let c256_i32_106 : BitVec 32 := 256#32
  let v679 : BitVec 32 := Scalar.muli arg16 c256_i32_106
  v679
def k0_off27 (i : grid0.Coords) (k0_t4 : Fin (k0_t4_loop i).trips) : Fin 3 → Nat :=
  let c0_107 : Index := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let c256_i32_106 : BitVec 32 := 256#32
  let v679 : BitVec 32 := Scalar.muli arg16 c256_i32_106
  let v680 : BitVec 32 := v679
  let v681 : Index := Scalar.indexCast v680
  let c384 : Index := 384#32
  ![0, v681.toNat, 384]
def k0_off28 (i : grid0.Coords) (k0_t4 : Fin (k0_t4_loop i).trips) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let v686 : BitVec 32 := Scalar.subi arg1 arg16
  let c2_i32_109 : BitVec 32 := 2#32
  let v687 : BitVec 32 := Scalar.minsi v686 c2_i32_109
  let v688 : Index := Scalar.indexCast v687
  let c0_110 : Index := 0#32
  let c0_111 : Index := 0#32
  ![v688.toNat, 0, 0]
def k0_off29 (i : grid0.Coords) (k0_t4 : Fin (k0_t4_loop i).trips) : Fin 2 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let c256_i32_106 : BitVec 32 := 256#32
  let v679 : BitVec 32 := Scalar.muli arg16 c256_i32_106
  let v680 : BitVec 32 := v679
  let v692 : Index := Scalar.indexCast v680
  let c0_112 : Index := 0#32
  ![v692.toNat, 0]
def k0_off30 (i : grid0.Coords) (k0_t4 : Fin (k0_t4_loop i).trips) : Fin 3 → Nat :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let v702 : Index := Scalar.indexCast arg16
  let c0_115 : Index := 0#32
  let c0_116 : Index := 0#32
  ![v702.toNat, 0, 0]
def k0_mult10 (i : grid0.Coords) (k0_t4 : Fin (k0_t4_loop i).trips) : BitVec 32 :=
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let c256_i32_149 : BitVec 32 := 256#32
  let v877 : BitVec 32 := Scalar.muli arg16 c256_i32_149
  v877
def k0_off31 (i : grid0.Coords) (k0_t4 : Fin (k0_t4_loop i).trips) : Fin 3 → Nat :=
  let c0_150 : Index := 0#32
  let arg1 : BitVec 32 := BitVec.ofNat 32 (i 1).val
  let c2_i32_54 : BitVec 32 := 2#32
  let v515 : BitVec 32 := Scalar.subi arg1 c2_i32_54
  let c0_i32_55 : BitVec 32 := 0#32
  let v516 : BitVec 32 := Scalar.maxsi v515 c0_i32_55
  let c1_i32_83 : BitVec 32 := 1#32
  let v563 : BitVec 32 := Scalar.addi arg1 c1_i32_83
  let v572 : BitVec 32 := Scalar.subi v563 v516
  let c1_i32_92 : BitVec 32 := 1#32
  let v574 : BitVec 32 := Scalar.divsi v572 c1_i32_92
  let v575 : BitVec 32 := Scalar.muli v574 c1_i32_92
  let v576 : BitVec 32 := Scalar.addi v516 v575
  let c1_i32_94 : BitVec 32 := 1#32
  let arg16 : BitVec 32 := Scf.iv v576 c1_i32_94 k0_t4
  let c256_i32_149 : BitVec 32 := 256#32
  let v877 : BitVec 32 := Scalar.muli arg16 c256_i32_149
  let v878 : BitVec 32 := v877
  let v879 : Index := Scalar.indexCast v878
  let c512 : Index := 512#32
  ![0, v879.toNat, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2.lean ====
abbrev S16x2048x1024 : Shape := ⟨3, ![16, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S32768x1024 : Shape := ⟨2, ![32768, 1024]⟩
abbrev S1x4096 : Shape := ⟨2, ![1, 4096]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x4096, .bf16⟩
  | .hbm, ⟨9, _⟩ => ⟨S1x4096, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2048x1024 : Shape := ⟨3, ![16, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16x2048x4096 : Shape := ⟨3, ![16, 2048, 4096]⟩
abbrev S1x1x4096 : Shape := ⟨3, ![1, 1, 4096]⟩
abbrev S_ : Shape := ⟨0, ![]⟩
abbrev S1x1x1024 : Shape := ⟨3, ![1, 1, 1024]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16x2048x4096, .f32⟩
  | .hbm, ⟨8, _⟩ => ⟨S1x1x4096, .f32⟩
  | .hbm, ⟨9, _⟩ => ⟨S16x2048x4096, .f32⟩
  | .hbm, ⟨10, _⟩ => ⟨S16x2048x4096, .f32⟩
  | .hbm, ⟨11, _⟩ => ⟨S_, .f32⟩
  | .hbm, ⟨12, _⟩ => ⟨S16x2048x4096, .f32⟩
  | .hbm, ⟨13, _⟩ => ⟨S16x2048x4096, .f32⟩
  | .hbm, ⟨14, _⟩ => ⟨S16x2048x4096, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | .hbm, ⟨52, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S32768x1024 : Shape := ⟨2, ![32768, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S1x1x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024x2904 : Shape := ⟨2, ![1024, 2904]⟩
abbrev S2904 : Shape := ⟨1, ![2904]⟩
abbrev S32768x1024 : Shape := ⟨2, ![32768, 1024]⟩
abbrev S1024x128 : Shape := ⟨2, ![1024, 128]⟩
abbrev S1024x256 : Shape := ⟨2, ![1024, 256]⟩
abbrev S1024x4 : Shape := ⟨2, ![1024, 4]⟩
abbrev S1024x4x64 : Shape := ⟨3, ![1024, 4, 64]⟩
abbrev S1024x4x32 : Shape := ⟨3, ![1024, 4, 32]⟩
abbrev S1024x64 : Shape := ⟨2, ![1024, 64]⟩
abbrev S_ : Shape := ⟨0, ![]⟩
abbrev S1024x60 : Shape := ⟨2, ![1024, 60]⟩
abbrev S1024x12 : Shape := ⟨2, ![1024, 12]⟩
abbrev S1024x116 : Shape := ⟨2, ![1024, 116]⟩
abbrev S1024x120 : Shape := ⟨2, ![1024, 120]⟩
abbrev S1024x3008 : Shape := ⟨2, ![1024, 3008]⟩
abbrev S1024x960 : Shape := ⟨2, ![1024, 960]⟩
abbrev S1024x3968 : Shape := ⟨2, ![1024, 3968]⟩
abbrev S128 : Shape := ⟨1, ![128]⟩
abbrev S256 : Shape := ⟨1, ![256]⟩
abbrev S4 : Shape := ⟨1, ![4]⟩
abbrev S4x64 : Shape := ⟨2, ![4, 64]⟩
abbrev S4x32 : Shape := ⟨2, ![4, 32]⟩
abbrev S64 : Shape := ⟨1, ![64]⟩
abbrev S60 : Shape := ⟨1, ![60]⟩
abbrev S12 : Shape := ⟨1, ![12]⟩
abbrev S116 : Shape := ⟨1, ![116]⟩
abbrev S120 : Shape := ⟨1, ![120]⟩
abbrev S3008 : Shape := ⟨1, ![3008]⟩
abbrev S960 : Shape := ⟨1, ![960]⟩
abbrev S3968 : Shape := ⟨1, ![3968]⟩
abbrev S1x3968 : Shape := ⟨2, ![1, 3968]⟩
abbrev S32768x1536 : Shape := ⟨2, ![32768, 1536]⟩
abbrev S32768x768 : Shape := ⟨2, ![32768, 768]⟩
abbrev S32768x128 : Shape := ⟨2, ![32768, 128]⟩
abbrev S512x1024 : Shape := ⟨2, ![512, 1024]⟩
abbrev S512x1536 : Shape := ⟨2, ![512, 1536]⟩
abbrev S512x768 : Shape := ⟨2, ![512, 768]⟩
abbrev S512x128 : Shape := ⟨2, ![512, 128]⟩
abbrev S1024x1536 : Shape := ⟨2, ![1024, 1536]⟩
abbrev S1x1536 : Shape := ⟨2, ![1, 1536]⟩
abbrev S1024x768 : Shape := ⟨2, ![1024, 768]⟩
abbrev S1x768 : Shape := ⟨2, ![1, 768]⟩
abbrev S1x128 : Shape := ⟨2, ![1, 128]⟩

abbrev nBuf : Space → Nat
  | .hbm => 99
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024x2904, .f32⟩
  | .hbm, ⟨2, _⟩ => ⟨S2904, .f32⟩
  | .hbm, ⟨3, _⟩ => ⟨S32768x1024, .f32⟩
  | .hbm, ⟨4, _⟩ => ⟨S1024x128, .f32⟩
  | .hbm, ⟨5, _⟩ => ⟨S1024x128, .f32⟩
  | .hbm, ⟨6, _⟩ => ⟨S1024x256, .f32⟩
  | .hbm, ⟨7, _⟩ => ⟨S1024x256, .f32⟩
  | .hbm, ⟨8, _⟩ => ⟨S1024x4, .f32⟩
  | .hbm, ⟨9, _⟩ => ⟨S1024x4x64, .f32⟩
  | .hbm, ⟨10, _⟩ => ⟨S1024x256, .f32⟩
  | .hbm, ⟨11, _⟩ => ⟨S1024x4, .f32⟩
  | .hbm, ⟨12, _⟩ => ⟨S1024x4x32, .f32⟩
  | .hbm, ⟨13, _⟩ => ⟨S1024x128, .f32⟩
  | .hbm, ⟨14, _⟩ => ⟨S1024x4, .f32⟩
  | .hbm, ⟨15, _⟩ => ⟨S1024x4x64, .f32⟩
  | .hbm, ⟨16, _⟩ => ⟨S1024x256, .f32⟩
  | .hbm, ⟨17, _⟩ => ⟨S1024x4, .f32⟩
  | .hbm, ⟨18, _⟩ => ⟨S1024x4x32, .f32⟩
  | .hbm, ⟨19, _⟩ => ⟨S1024x128, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S1024x4, .f32⟩
  | .hbm, ⟨29, _⟩ => ⟨S_, .f32⟩
  | .hbm, ⟨30, _⟩ => ⟨S1024x60, .f32⟩
  | .hbm, ⟨31, _⟩ => ⟨S1024x256, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S1024x64, .f32⟩
  | .hbm, ⟨38, _⟩ => ⟨S1024x12, .f32⟩
  | .hbm, ⟨39, _⟩ => ⟨S_, .f32⟩
  | .hbm, ⟨40, _⟩ => ⟨S1024x116, .f32⟩
  | .hbm, ⟨41, _⟩ => ⟨S1024x4, .f32⟩
  | .hbm, ⟨42, _⟩ => ⟨S1024x4, .f32⟩
  | .hbm, ⟨43, _⟩ => ⟨S_, .f32⟩
  | .hbm, ⟨44, _⟩ => ⟨S1024x120, .f32⟩
  | .hbm, ⟨45, _⟩ => ⟨S1024x3008, .f32⟩
  | .hbm, ⟨46, _⟩ => ⟨S1024x960, .f32⟩
  | .hbm, ⟨47, _⟩ => ⟨S1024x3968, .f32⟩
  | .hbm, ⟨48, _⟩ => ⟨S1024x3968, .bf16⟩
  | .hbm, ⟨49, _⟩ => ⟨S128, .f32⟩
  | .hbm, ⟨50, _⟩ => ⟨S128, .f32⟩
  | .hbm, ⟨51, _⟩ => ⟨S256, .f32⟩
  | .hbm, ⟨52, _⟩ => ⟨S256, .f32⟩
  | .hbm, ⟨53, _⟩ => ⟨S4, .f32⟩
  | .hbm, ⟨54, _⟩ => ⟨S4x64, .f32⟩
  | .hbm, ⟨55, _⟩ => ⟨S256, .f32⟩
  | .hbm, ⟨56, _⟩ => ⟨S4, .f32⟩
  | .hbm, ⟨57, _⟩ => ⟨S4x32, .f32⟩
  | .hbm, ⟨58, _⟩ => ⟨S128, .f32⟩
  | .hbm, ⟨59, _⟩ => ⟨S4, .f32⟩
  | .hbm, ⟨60, _⟩ => ⟨S4x64, .f32⟩
  | .hbm, ⟨61, _⟩ => ⟨S256, .f32⟩
  | .hbm, ⟨62, _⟩ => ⟨S4, .f32⟩
  | .hbm, ⟨63, _⟩ => ⟨S4x32, .f32⟩
  | .hbm, ⟨64, _⟩ => ⟨S128, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S4, .f32⟩
  | .hbm, ⟨74, _⟩ => ⟨S_, .f32⟩
  | .hbm, ⟨75, _⟩ => ⟨S60, .f32⟩
  | .hbm, ⟨76, _⟩ => ⟨S256, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S12, .f32⟩
  | .hbm, ⟨84, _⟩ => ⟨S_, .f32⟩
  | .hbm, ⟨85, _⟩ => ⟨S116, .f32⟩
  | .hbm, ⟨86, _⟩ => ⟨S4, .f32⟩
  | .hbm, ⟨87, _⟩ => ⟨S4, .f32⟩
  | .hbm, ⟨88, _⟩ => ⟨S_, .f32⟩
  | .hbm, ⟨89, _⟩ => ⟨S120, .f32⟩
  | .hbm, ⟨90, _⟩ => ⟨S3008, .f32⟩
  | .hbm, ⟨91, _⟩ => ⟨S960, .f32⟩
  | .hbm, ⟨92, _⟩ => ⟨S3968, .f32⟩
  | .hbm, ⟨93, _⟩ => ⟨S1x3968, .f32⟩
  | .hbm, ⟨94, _⟩ => ⟨S32768x1536, .f32⟩
  | .hbm, ⟨95, _⟩ => ⟨S32768x768, .f32⟩
  | .hbm, ⟨96, _⟩ => ⟨S32768x768, .f32⟩
  | .hbm, ⟨97, _⟩ => ⟨S32768x768, .f32⟩
  | .hbm, ⟨98, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x3968, .bf16⟩
  | .local _ .vmem, ⟨3, _⟩ => ⟨S1x3968, .f32⟩
  | .local _ .vmem, ⟨4, _⟩ => ⟨S512x1536, .f32⟩
  | .local _ .vmem, ⟨5, _⟩ => ⟨S512x1536, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x128, .f32⟩
  | .local _ .vmem, ⟨13, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_0 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_2 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_3 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_4 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85_0 : Ref sig .tc := ⟨.hbm, 94, rfl⟩
abbrev main_v85_1 : Ref sig .tc := ⟨.hbm, 95, rfl⟩
abbrev main_v85_2 : Ref sig .tc := ⟨.hbm, 96, rfl⟩
abbrev main_v85_3 : Ref sig .tc := ⟨.hbm, 97, rfl⟩
abbrev main_v85_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3968 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3968 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16x2048x1024 : Shape := ⟨3, ![16, 2048, 1024]⟩
abbrev S1024x2904 : Shape := ⟨2, ![1024, 2904]⟩
abbrev S2904 : Shape := ⟨1, ![2904]⟩
abbrev S16x2048x2904 : Shape := ⟨3, ![16, 2048, 2904]⟩
abbrev S1x1x2904 : Shape := ⟨3, ![1, 1, 2904]⟩
abbrev S16x2048x128 : Shape := ⟨3, ![16, 2048, 128]⟩
abbrev S16x2048x256 : Shape := ⟨3, ![16, 2048, 256]⟩
abbrev S16x2048x4 : Shape := ⟨3, ![16, 2048, 4]⟩
abbrev S16x2048x64 : Shape := ⟨3, ![16, 2048, 64]⟩
abbrev S16x2048x12 : Shape := ⟨3, ![16, 2048, 12]⟩
abbrev S16x2048x4x64 : Shape := ⟨4, ![16, 2048, 4, 64]⟩
abbrev S16x2048x4x32 : Shape := ⟨4, ![16, 2048, 4, 32]⟩
abbrev S_ : Shape := ⟨0, ![]⟩
abbrev S16x2048x60 : Shape := ⟨3, ![16, 2048, 60]⟩
abbrev S16x2048x116 : Shape := ⟨3, ![16, 2048, 116]⟩
abbrev S16x2048x120 : Shape := ⟨3, ![16, 2048, 120]⟩
abbrev S16x2048x1536 : Shape := ⟨3, ![16, 2048, 1536]⟩
abbrev S16x2048x768 : Shape := ⟨3, ![16, 2048, 768]⟩
abbrev S32768x1536 : Shape := ⟨2, ![32768, 1536]⟩
abbrev S32768x768 : Shape := ⟨2, ![32768, 768]⟩
abbrev S32768x128 : Shape := ⟨2, ![32768, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x2904, .f32⟩
  | .hbm, ⟨2, _⟩ => ⟨S2904, .f32⟩
  | .hbm, ⟨3, _⟩ => ⟨S16x2048x2904, .f32⟩
  | .hbm, ⟨4, _⟩ => ⟨S1x1x2904, .f32⟩
  | .hbm, ⟨5, _⟩ => ⟨S16x2048x2904, .f32⟩
  | .hbm, ⟨6, _⟩ => ⟨S16x2048x2904, .f32⟩
  | .hbm, ⟨7, _⟩ => ⟨S16x2048x128, .f32⟩
  | .hbm, ⟨8, _⟩ => ⟨S16x2048x128, .f32⟩
  | .hbm, ⟨9, _⟩ => ⟨S16x2048x256, .f32⟩
  | .hbm, ⟨10, _⟩ => ⟨S16x2048x4, .f32⟩
  | .hbm, ⟨11, _⟩ => ⟨S16x2048x4, .f32⟩
  | .hbm, ⟨12, _⟩ => ⟨S16x2048x256, .f32⟩
  | .hbm, ⟨13, _⟩ => ⟨S16x2048x256, .f32⟩
  | .hbm, ⟨14, _⟩ => ⟨S16x2048x256, .f32⟩
  | .hbm, ⟨15, _⟩ => ⟨S16x2048x256, .f32⟩
  | .hbm, ⟨16, _⟩ => ⟨S16x2048x256, .f32⟩
  | .hbm, ⟨17, _⟩ => ⟨S16x2048x64, .f32⟩
  | .hbm, ⟨18, _⟩ => ⟨S16x2048x64, .f32⟩
  | .hbm, ⟨19, _⟩ => ⟨S16x2048x256, .f32⟩
  | .hbm, ⟨20, _⟩ => ⟨S16x2048x64, .f32⟩
  | .hbm, ⟨21, _⟩ => ⟨S16x2048x4, .f32⟩
  | .hbm, ⟨22, _⟩ => ⟨S16x2048x256, .f32⟩
  | .hbm, ⟨23, _⟩ => ⟨S16x2048x64, .f32⟩
  | .hbm, ⟨24, _⟩ => ⟨S16x2048x64, .f32⟩
  | .hbm, ⟨25, _⟩ => ⟨S16x2048x64, .f32⟩
  | .hbm, ⟨26, _⟩ => ⟨S16x2048x64, .f32⟩
  | .hbm, ⟨27, _⟩ => ⟨S16x2048x64, .f32⟩
  | .hbm, ⟨28, _⟩ => ⟨S16x2048x64, .f32⟩
  | .hbm, ⟨29, _⟩ => ⟨S16x2048x12, .f32⟩
  | .hbm, ⟨30, _⟩ => ⟨S16x2048x4x64, .f32⟩
  | .hbm, ⟨31, _⟩ => ⟨S16x2048x256, .f32⟩
  | .hbm, ⟨32, _⟩ => ⟨S16x2048x4x32, .f32⟩
  | .hbm, ⟨33, _⟩ => ⟨S16x2048x128, .f32⟩
  | .hbm, ⟨34, _⟩ => ⟨S16x2048x4x64, .f32⟩
  | .hbm, ⟨35, _⟩ => ⟨S16x2048x256, .f32⟩
  | .hbm, ⟨36, _⟩ => ⟨S16x2048x4x32, .f32⟩
  | .hbm, ⟨37, _⟩ => ⟨S16x2048x128, .f32⟩
  | .hbm, ⟨38, _⟩ => ⟨S_, .f32⟩
  | .hbm, ⟨39, _⟩ => ⟨S16x2048x60, .f32⟩
  | .hbm, ⟨40, _⟩ => ⟨S_, .f32⟩
  | .hbm, ⟨41, _⟩ => ⟨S16x2048x116, .f32⟩
  | .hbm, ⟨42, _⟩ => ⟨S_, .f32⟩
  | .hbm, ⟨43, _⟩ => ⟨S16x2048x120, .f32⟩
  | .hbm, ⟨44, _⟩ => ⟨S16x2048x1536, .f32⟩
  | .hbm, ⟨45, _⟩ => ⟨S16x2048x768, .f32⟩
  | .hbm, ⟨46, _⟩ => ⟨S16x2048x768, .f32⟩
  | .hbm, ⟨47, _⟩ => ⟨S16x2048x768, .f32⟩
  | .hbm, ⟨48, _⟩ => ⟨S16x2048x128, .f32⟩
  | .hbm, ⟨49, _⟩ => ⟨S32768x1536, .f32⟩
  | .hbm, ⟨50, _⟩ => ⟨S32768x768, .f32⟩
  | .hbm, ⟨51, _⟩ => ⟨S32768x768, .f32⟩
  | .hbm, ⟨52, _⟩ => ⟨S32768x768, .f32⟩
  | .hbm, ⟨53, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Kernel5.lean ====
abbrev S16x2048x128 : Shape := ⟨3, ![16, 2048, 128]⟩
abbrev S16x2048x256 : Shape := ⟨3, ![16, 2048, 256]⟩
abbrev S16x2048x4 : Shape := ⟨3, ![16, 2048, 4]⟩
abbrev S4x256 : Shape := ⟨2, ![4, 256]⟩
abbrev S256 : Shape := ⟨1, ![256]⟩
abbrev S16x2048x4x64 : Shape := ⟨4, ![16, 2048, 4, 64]⟩
abbrev S16x2048x4x32 : Shape := ⟨4, ![16, 2048, 4, 32]⟩
abbrev S16x2048x1536 : Shape := ⟨3, ![16, 2048, 1536]⟩
abbrev S_ : Shape := ⟨0, ![]⟩
abbrev S16x2048x120 : Shape := ⟨3, ![16, 2048, 120]⟩
abbrev S16x2048x8 : Shape := ⟨3, ![16, 2048, 8]⟩
abbrev S16x32x64x2x4 : Shape := ⟨5, ![16, 32, 64, 2, 4]⟩
abbrev S16x32x2x4x64 : Shape := ⟨5, ![16, 32, 2, 4, 64]⟩
abbrev S16x32x2x256 : Shape := ⟨4, ![16, 32, 2, 256]⟩
abbrev S1x256 : Shape := ⟨2, ![1, 256]⟩
abbrev S1x2048x1536 : Shape := ⟨3, ![1, 2048, 1536]⟩
abbrev S1x32x2x256 : Shape := ⟨4, ![1, 32, 2, 256]⟩
abbrev S1x2048x256 : Shape := ⟨3, ![1, 2048, 256]⟩
abbrev S2056x256 : Shape := ⟨2, ![2056, 256]⟩
abbrev S8x256 : Shape := ⟨2, ![8, 256]⟩
abbrev S2048x256 : Shape := ⟨2, ![2048, 256]⟩
abbrev S64x64 : Shape := ⟨2, ![64, 64]⟩
abbrev S64x256 : Shape := ⟨2, ![64, 256]⟩
abbrev S256x256 : Shape := ⟨2, ![256, 256]⟩
abbrev S128x256 : Shape := ⟨2, ![128, 256]⟩
abbrev S128x128 : Shape := ⟨2, ![128, 128]⟩
abbrev S64x128 : Shape := ⟨2, ![64, 128]⟩
abbrev S1x128 : Shape := ⟨2, ![1, 128]⟩
abbrev S72x256 : Shape := ⟨2, ![72, 256]⟩
abbrev S1x64x256 : Shape := ⟨3, ![1, 64, 256]⟩
abbrev S1x64x128 : Shape := ⟨3, ![1, 64, 128]⟩
abbrev S1x1x2x256 : Shape := ⟨4, ![1, 1, 2, 256]⟩
abbrev S2x256 : Shape := ⟨2, ![2, 256]⟩
abbrev S1x64x384 : Shape := ⟨3, ![1, 64, 384]⟩
abbrev S64x384 : Shape := ⟨2, ![64, 384]⟩
abbrev S64x1152 : Shape := ⟨2, ![64, 1152]⟩
abbrev S256x128 : Shape := ⟨2, ![256, 128]⟩
abbrev S256x512 : Shape := ⟨2, ![256, 512]⟩
abbrev S64x512 : Shape := ⟨2, ![64, 512]⟩
abbrev S128x512 : Shape := ⟨2, ![128, 512]⟩
abbrev S128 : Shape := ⟨1, ![128]⟩
abbrev S128x64 : Shape := ⟨2, ![128, 64]⟩

abbrev nBuf : Space → Nat
  | .hbm => 26
  | .vmem => 9
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x256, .f32⟩
  | .hbm, ⟨3, _⟩ => ⟨S16x2048x256, .f32⟩
  | .hbm, ⟨4, _⟩ => ⟨S16x2048x4, .f32⟩
  | .hbm, ⟨5, _⟩ => ⟨S16x2048x4, .f32⟩
  | .hbm, ⟨6, _⟩ => ⟨S4x256, .f32⟩
  | .hbm, ⟨7, _⟩ => ⟨S256, .f32⟩
  | .hbm, ⟨8, _⟩ => ⟨S16x2048x4x64, .f32⟩
  | .hbm, ⟨9, _⟩ => ⟨S16x2048x256, .f32⟩
  | .hbm, ⟨10, _⟩ => ⟨S16x2048x4x32, .f32⟩
  | .hbm, ⟨11, _⟩ => ⟨S16x2048x128, .f32⟩
  | .hbm, ⟨12, _⟩ => ⟨S16x2048x4x64, .f32⟩
  | .hbm, ⟨13, _⟩ => ⟨S16x2048x256, .f32⟩
  | .hbm, ⟨14, _⟩ => ⟨S16x2048x4x32, .f32⟩
  | .hbm, ⟨15, _⟩ => ⟨S16x2048x128, .f32⟩
  | .hbm, ⟨16, _⟩ => ⟨S16x2048x1536, .f32⟩
  | .hbm, ⟨17, _⟩ => ⟨S_, .f32⟩
  | .hbm, ⟨18, _⟩ => ⟨S16x2048x120, .f32⟩
  | .hbm, ⟨19, _⟩ => ⟨S16x2048x128, .f32⟩
  | .hbm, ⟨20, _⟩ => ⟨S16x2048x8, .f32⟩
  | .hbm, ⟨21, _⟩ => ⟨S16x32x64x2x4, .f32⟩
  | .hbm, ⟨22, _⟩ => ⟨S16x32x2x4x64, .f32⟩
  | .hbm, ⟨23, _⟩ => ⟨S16x32x2x256, .f32⟩
  | .hbm, ⟨24, _⟩ => ⟨S1x256, .f32⟩
  | .hbm, ⟨25, _⟩ => ⟨S16x2048x256, .f32⟩
  | .local _ .vmem, ⟨0, _⟩ => ⟨S1x2048x1536, .f32⟩
  | .local _ .vmem, ⟨1, _⟩ => ⟨S1x2048x1536, .f32⟩
  | .local _ .vmem, ⟨2, _⟩ => ⟨S1x32x2x256, .f32⟩
  | .local _ .vmem, ⟨3, _⟩ => ⟨S1x32x2x256, .f32⟩
  | .local _ .vmem, ⟨4, _⟩ => ⟨S4x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | .local _ .vmem, ⟨8, _⟩ => ⟨S2056x256, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v74 : BitVec 32 := Scalar.addi c0_i32 c32_i32
  let c1_i32 : BitVec 32 := 1#32
  ⟨c0_i32, v74, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  v76
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v78 : Index := Scalar.indexCast v77
  let c0_30 : Index := 0#32
  ![v78.toNat, 0]
def k0_off2 (k0_t1 : Fin k0_t1_loop.trips) : Fin 3 → Nat :=
  let c0_36 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v114 : Index := Scalar.indexCast v77
  let c256 : Index := 256#32
  ![0, v114.toNat, 256]
def k0_off3 (k0_t1 : Fin k0_t1_loop.trips) : Fin 3 → Nat :=
  let c0_37 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v117 : Index := Scalar.indexCast v77
  let c768 : Index := 768#32
  ![0, v117.toNat, 768]
def k0_off4 (k0_t1 : Fin k0_t1_loop.trips) : Fin 3 → Nat :=
  let c0_38 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v120 : Index := Scalar.indexCast v77
  let c1024 : Index := 1024#32
  ![0, v120.toNat, 1024]
def k0_off5 (k0_t1 : Fin k0_t1_loop.trips) : Fin 4 → Nat :=
  let c0_39 : Index := 0#32
  let c0_i32 : BitVec 32 := 0#32
  let c1_i32 : BitVec 32 := 1#32
  let arg7 : BitVec 32 := Scf.iv c0_i32 c1_i32 k0_t1
  let v123 : Index := Scalar.indexCast arg7
  let c0_40 : Index := 0#32
  let c0_41 : Index := 0#32
  ![0, v123.toNat, 0, 0]
def k0_off6 (k0_t1 : Fin k0_t1_loop.trips) : Fin 3 → Nat :=
  let c0_42 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v126 : Index := Scalar.indexCast v77
  let c1152 : Index := 1152#32
  ![0, v126.toNat, 1152]
def k0_off7 (k0_t1 : Fin k0_t1_loop.trips) : Fin 3 → Nat :=
  let c0_85 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v308 : Index := Scalar.indexCast v77
  let c512 : Index := 512#32
  ![0, v308.toNat, 512]
def k0_off8 (k0_t1 : Fin k0_t1_loop.trips) : Fin 3 → Nat :=
  let c0_92 : Index := 0#32
  let c0_i32 : BitVec 32 := 0#32
  let c1_i32 : BitVec 32 := 1#32
  let arg7 : BitVec 32 := Scf.iv c0_i32 c1_i32 k0_t1
  let c64_i32 : BitVec 32 := 64#32
  let v76 : BitVec 32 := Scalar.muli arg7 c64_i32
  let v77 : BitVec 32 := v76
  let v345 : Index := Scalar.indexCast v77
  let c0_93 : Index := 0#32
  ![0, v345.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6.lean ====
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S32768x1024 : Shape := ⟨2, ![32768, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1x4096 : Shape := ⟨2, ![1, 4096]⟩
abbrev S1024x1 : Shape := ⟨2, ![1024, 1]⟩

abbrev nBuf : Space → Nat
  | .hbm => 33
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S32768x1024, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .hbm, ⟨25, _⟩ => ⟨S1024x4096, .bf16⟩
  | .hbm, ⟨26, _⟩ => ⟨S1x4096, .f32⟩
  | .hbm, ⟨27, _⟩ => ⟨S4096x1024, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S32768x1024, .f32⟩
  | .hbm, ⟨32, _⟩ => ⟨S16x2048x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== Reference6Ideal.lean ====
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S1x1x1024 : Shape := ⟨3, ![1, 1, 1024]⟩
abbrev S16x2048 : Shape := ⟨2, ![16, 2048]⟩
abbrev S16x2048x1 : Shape := ⟨3, ![16, 2048, 1]⟩
abbrev S16x2048x4096 : Shape := ⟨3, ![16, 2048, 4096]⟩
abbrev S1x1x4096 : Shape := ⟨3, ![1, 1, 4096]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x2048x4096, .f32⟩
  | .hbm, ⟨54, _⟩ => ⟨S1x1x4096, .f32⟩
  | .hbm, ⟨55, _⟩ => ⟨S16x2048x4096, .f32⟩
  | .hbm, ⟨56, _⟩ => ⟨S16x2048x4096, .f32⟩
  | .hbm, ⟨57, _⟩ => ⟨S_, .f32⟩
  | .hbm, ⟨58, _⟩ => ⟨S16x2048x4096, .f32⟩
  | .hbm, ⟨59, _⟩ => ⟨S16x2048x4096, .f32⟩
  | .hbm, ⟨60, _⟩ => ⟨S16x2048x4096, .f32⟩
  | .hbm, ⟨61, _⟩ => ⟨S16x2048x1024, .f32⟩
  | .hbm, ⟨62, _⟩ => ⟨S1x1x1024, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S1x1x1024, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_cst : Ref sig .tc := ⟨.hbm, 57, rfl⟩
abbrev main_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Kernel7.lean ====
abbrev S16x2048x256 : Shape := ⟨3, ![16, 2048, 256]⟩
abbrev S32x4 : Shape := ⟨2, ![32, 4]⟩
abbrev S512 : Shape := ⟨1, ![512]⟩
abbrev S16x2048x768 : Shape := ⟨3, ![16, 2048, 768]⟩
abbrev S4x32 : Shape := ⟨2, ![4, 32]⟩
abbrev S_ : Shape := ⟨0, ![]⟩
abbrev S512x1 : Shape := ⟨2, ![512, 1]⟩
abbrev S4x512 : Shape := ⟨2, ![4, 512]⟩
abbrev S1x4x1x512 : Shape := ⟨4, ![1, 4, 1, 512]⟩
abbrev S1x4x128x512 : Shape := ⟨4, ![1, 4, 128, 512]⟩
abbrev S4x65536 : Shape := ⟨2, ![4, 65536]⟩
abbrev S4x65408 : Shape := ⟨2, ![4, 65408]⟩
abbrev S4x128x511 : Shape := ⟨3, ![4, 128, 511]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S3x2x2x128x256 : Shape := ⟨5, ![3, 2, 2, 128, 256]⟩
abbrev S3x2x128x2x256 : Shape := ⟨5, ![3, 2, 128, 2, 256]⟩
abbrev S3x2x128x512 : Shape := ⟨4, ![3, 2, 128, 512]⟩
abbrev S1x2048x128 : Shape := ⟨3, ![1, 2048, 128]⟩
abbrev S1x2048x256 : Shape := ⟨3, ![1, 2048, 256]⟩
abbrev S3x2x2048x128 : Shape := ⟨4, ![3, 2, 2048, 128]⟩
abbrev S128x512 : Shape := ⟨2, ![128, 512]⟩
abbrev S256x128 : Shape := ⟨2, ![256, 128]⟩
abbrev S512x128 : Shape := ⟨2, ![512, 128]⟩
abbrev S1x128x128 : Shape := ⟨3, ![1, 128, 128]⟩
abbrev S128x128 : Shape := ⟨2, ![128, 128]⟩
abbrev S1x1x128x512 : Shape := ⟨4, ![1, 1, 128, 512]⟩
abbrev S128x256 : Shape := ⟨2, ![128, 256]⟩
abbrev S128 : Shape := ⟨1, ![128]⟩
abbrev S128x1 : Shape := ⟨2, ![128, 1]⟩
abbrev S128x64 : Shape := ⟨2, ![128, 64]⟩
abbrev S512x256 : Shape := ⟨2, ![512, 256]⟩
abbrev S1x1x128x128 : Shape := ⟨4, ![1, 1, 128, 128]⟩
abbrev S1x128x256 : Shape := ⟨3, ![1, 128, 256]⟩

abbrev nBuf : Space → Nat
  | .hbm => 58
  | .vmem => 18
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S32x4, .f32⟩
  | .hbm, ⟨4, _⟩ => ⟨S512, .i32⟩
  | .hbm, ⟨5, _⟩ => ⟨S512, .i1⟩
  | .hbm, ⟨6, _⟩ => ⟨S512, .i32⟩
  | .hbm, ⟨7, _⟩ => ⟨S512, .i1⟩
  | .hbm, ⟨8, _⟩ => ⟨S512, .i32⟩
  | .hbm, ⟨9, _⟩ => ⟨S512, .i1⟩
  | .hbm, ⟨10, _⟩ => ⟨S16x2048x768, .f32⟩
  | .hbm, ⟨11, _⟩ => ⟨S4x32, .f32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S4x512, .f32⟩
  | .hbm, ⟨18, _⟩ => ⟨S1x4x1x512, .f32⟩
  | .hbm, ⟨19, _⟩ => ⟨S1x4x128x512, .f32⟩
  | .hbm, ⟨20, _⟩ => ⟨S4x65536, .f32⟩
  | .hbm, ⟨21, _⟩ => ⟨S4x65408, .f32⟩
  | .hbm, ⟨22, _⟩ => ⟨S4x128x511, .f32⟩
  | .hbm, ⟨23, _⟩ => ⟨S4x128x256, .f32⟩
  | .hbm, ⟨24, _⟩ => ⟨S4x32, .f32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S4x512, .f32⟩
  | .hbm, ⟨31, _⟩ => ⟨S1x4x1x512, .f32⟩
  | .hbm, ⟨32, _⟩ => ⟨S1x4x128x512, .f32⟩
  | .hbm, ⟨33, _⟩ => ⟨S4x65536, .f32⟩
  | .hbm, ⟨34, _⟩ => ⟨S4x65408, .f32⟩
  | .hbm, ⟨35, _⟩ => ⟨S4x128x511, .f32⟩
  | .hbm, ⟨36, _⟩ => ⟨S4x128x256, .f32⟩
  | .hbm, ⟨37, _⟩ => ⟨S4x32, .f32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S4x512, .f32⟩
  | .hbm, ⟨44, _⟩ => ⟨S1x4x1x512, .f32⟩
  | .hbm, ⟨45, _⟩ => ⟨S1x4x128x512, .f32⟩
  | .hbm, ⟨46, _⟩ => ⟨S4x65536, .f32⟩
  | .hbm, ⟨47, _⟩ => ⟨S4x65408, .f32⟩
  | .hbm, ⟨48, _⟩ => ⟨S4x128x511, .f32⟩
  | .hbm, ⟨49, _⟩ => ⟨S4x128x256, .f32⟩
  | .hbm, ⟨50, _⟩ => ⟨S1x4x128x256, .f32⟩
  | .hbm, ⟨51, _⟩ => ⟨S1x4x128x256, .f32⟩
  | .hbm, ⟨52, _⟩ => ⟨S1x4x128x256, .f32⟩
  | .hbm, ⟨53, _⟩ => ⟨S3x4x128x256, .f32⟩
  | .hbm, ⟨54, _⟩ => ⟨S3x2x2x128x256, .f32⟩
  | .hbm, ⟨55, _⟩ => ⟨S3x2x128x2x256, .f32⟩
  | .hbm, ⟨56, _⟩ => ⟨S3x2x128x512, .f32⟩
  | .hbm, ⟨57, _⟩ => ⟨S16x2048x256, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S3x2x128x512, .f32⟩
  | .local _ .vmem, ⟨13, _⟩ => ⟨S1x2048x256, .f32⟩
  | .local _ .vmem, ⟨14, _⟩ => ⟨S1x2048x256, .f32⟩
  | .local _ .vmem, ⟨15, _⟩ => ⟨S3x2x2048x128, .f32⟩
  | .local _ .vmem, ⟨16, _⟩ => ⟨S3x2x2048x128, .f32⟩
  | .local _ .vmem, ⟨17, _⟩ => ⟨S3x2x2048x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_c_5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_5 : BitVec 32 := 0#32
  let c16_i32 : BitVec 32 := 16#32
  let v27 : BitVec 32 := Scalar.addi c0_i32_5 c16_i32
  let c1_i32_6 : BitVec 32 := 1#32
  ⟨c0_i32_5, v27, c1_i32_6⟩
def k0_mult1 (k0_t1 : Fin k0_t1_loop.trips) : BitVec 32 :=
  let c128_i32_26 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v41 : BitVec 32 := Scalar.muli c128_i32_26 v40
  v41
def k0_mult2 (k0_t1 : Fin k0_t1_loop.trips) : BitVec 32 :=
  let c128_i32_29 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1_i32_27 : BitVec 32 := 1#32
  let v43 : BitVec 32 := Scalar.subi v40 c1_i32_27
  let c0_i32_28 : BitVec 32 := 0#32
  let v44 : BitVec 32 := Scalar.maxsi v43 c0_i32_28
  let v45 : BitVec 32 := Scalar.muli c128_i32_29 v44
  v45
def k0_off1 (k0_t1 : Fin k0_t1_loop.trips) : Fin 3 → Nat :=
  let c0 : Index := 0#32
  let c128_i32_26 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v41 : BitVec 32 := Scalar.muli c128_i32_26 v40
  let v42 : BitVec 32 := v41
  let v52 : Index := Scalar.indexCast v42
  let c0_33 : Index := 0#32
  ![0, v52.toNat, 0]
def k0_off2 (k0_t1 : Fin k0_t1_loop.trips) : Fin 3 → Nat :=
  let c0_35 : Index := 0#32
  let c128_i32_29 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1_i32_27 : BitVec 32 := 1#32
  let v43 : BitVec 32 := Scalar.subi v40 c1_i32_27
  let c0_i32_28 : BitVec 32 := 0#32
  let v44 : BitVec 32 := Scalar.maxsi v43 c0_i32_28
  let v45 : BitVec 32 := Scalar.muli c128_i32_29 v44
  let v46 : BitVec 32 := v45
  let v58 : Index := Scalar.indexCast v46
  let c0_36 : Index := 0#32
  ![0, v58.toNat, 0]
def k0_off3 (k0_t1 : Fin k0_t1_loop.trips) : Fin 4 → Nat :=
  let c0_62 : Index := 0#32
  let c0_63 : Index := 0#32
  let c128_i32_26 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v41 : BitVec 32 := Scalar.muli c128_i32_26 v40
  let v42 : BitVec 32 := v41
  let v127 : Index := Scalar.indexCast v42
  let c0_64 : Index := 0#32
  ![0, 0, v127.toNat, 0]
def k0_off4 (k0_t1 : Fin k0_t1_loop.trips) : Fin 4 → Nat :=
  let c0_100 : Index := 0#32
  let c1_101 : Index := 1#32
  let c128_i32_26 : BitVec 32 := 128#32
  let c0_i32_5 : BitVec 32 := 0#32
  let c1_i32_6 : BitVec 32 := 1#32
  let arg12 : BitVec 32 := Scf.iv c0_i32_5 c1_i32_6 k0_t1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v41 : BitVec 32 := Scalar.muli c128_i32_26 v40
  let v42 : BitVec 32 := v41
  let v216 : Index := Scalar.indexCast v42
  let c0_102 : Index := 0#32
  ![0, 1, v216.toNat, 0]
@[reducible] def k0_t2_loop : Scf.Loop 32 :=
  let c0_i32_8 : BitVec 32 := 0#32
  let c16_i32_9 : BitVec 32 := 16#32
  let v28 : BitVec 32 := Scalar.addi c0_i32_8 c16_i32_9
  let c1_i32_10 : BitVec 32 := 1#32
  ⟨c0_i32_8, v28, c1_i32_10⟩
def k0_off5 (k0_t2 : Fin k0_t2_loop.trips) : Fin 3 → Nat :=
  let c0 : Index := 0#32
  let c0_i32_8 : BitVec 32 := 0#32
  let c1_i32_10 : BitVec 32 := 1#32
  let arg12 : BitVec 32 := Scf.iv c0_i32_8 c1_i32_10 k0_t2
  let c0_i32_26 : BitVec 32 := 0#32
  let v42 : BitVec 1 := Scalar.cmpi .sgt arg12 c0_i32_26
  let v43 : BitVec 32 := Scalar.extui v42
  let c0_i32_27 : BitVec 32 := 0#32
  let v44 : BitVec 1 := Scalar.cmpi .slt arg12 c0_i32_27
  let v45 : BitVec 32 := Scalar.extui v44
  let v46 : BitVec 32 := Scalar.subi v43 v45
  let c4_i32_25 : BitVec 32 := 4#32
  let c0_i32_28 : BitVec 32 := 0#32
  let v47 : BitVec 1 := Scalar.cmpi .sgt c4_i32_25 c0_i32_28
  let v48 : BitVec 32 := Scalar.extui v47
  let c0_i32_29 : BitVec 32 := 0#32
  let v49 : BitVec 1 := Scalar.cmpi .slt c4_i32_25 c0_i32_29
  let v50 : BitVec 32 := Scalar.extui v49
  let v51 : BitVec 32 := Scalar.subi v48 v50
  let v52 : BitVec 1 := Scalar.cmpi .ne v46 v51
  let v53 : BitVec 32 := Scalar.remsi arg12 c4_i32_25
  let c0_i32_30 : BitVec 32 := 0#32
  let v54 : BitVec 1 := Scalar.cmpi .ne v53 c0_i32_30
  let v55 : BitVec 1 := Scalar.andi v52 v54
  let v41 : BitVec 32 := Scalar.divsi arg12 c4_i32_25
  let c1_i32_31 : BitVec 32 := 1#32
  let v56 : BitVec 32 := Scalar.subi v41 c1_i32_31
  let v57 : BitVec 32 := Scalar.select v55 v56 v41
  let c512_i32 : BitVec 32 := 512#32
  let c4_i32 : BitVec 32 := 4#32
  let c0_i32_20 : BitVec 32 := 0#32
  let v31 : BitVec 1 := Scalar.cmpi .eq c4_i32 c0_i32_20
  let c1_i32_21 : BitVec 32 := 1#32
  let v32 : BitVec 32 := Scalar.select v31 c1_i32_21 c4_i32
  let v33 : BitVec 32 := Scalar.remsi arg12 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let v58 : BitVec 32 := Scalar.muli c512_i32 v40
  let v59 : BitVec 32 := Scalar.addi v57 v58
  let v69 : Index := Scalar.indexCast v59
  let c0_38 : Index := 0#32
  ![0, v69.toNat, 0]
def k0_off6 (k0_t2 : Fin k0_t2_loop.trips) : Fin 3 → Nat :=
  let c0_40 : Index := 0#32
  let c0_i32_8 : BitVec 32 := 0#32
  let c1_i32_10 : BitVec 32 := 1#32
  let arg12 : BitVec 32 := Scf.iv c0_i32_8 c1_i32_10 k0_t2
  let c0_i32_26 : BitVec 32 := 0#32
  let v42 : BitVec 1 := Scalar.cmpi .sgt arg12 c0_i32_26
  let v43 : BitVec 32 := Scalar.extui v42
  let c0_i32_27 : BitVec 32 := 0#32
  let v44 : BitVec 1 := Scalar.cmpi .slt arg12 c0_i32_27
  let v45 : BitVec 32 := Scalar.extui v44
  let v46 : BitVec 32 := Scalar.subi v43 v45
  let c4_i32_25 : BitVec 32 := 4#32
  let c0_i32_28 : BitVec 32 := 0#32
  let v47 : BitVec 1 := Scalar.cmpi .sgt c4_i32_25 c0_i32_28
  let v48 : BitVec 32 := Scalar.extui v47
  let c0_i32_29 : BitVec 32 := 0#32
  let v49 : BitVec 1 := Scalar.cmpi .slt c4_i32_25 c0_i32_29
  let v50 : BitVec 32 := Scalar.extui v49
  let v51 : BitVec 32 := Scalar.subi v48 v50
  let v52 : BitVec 1 := Scalar.cmpi .ne v46 v51
  let v53 : BitVec 32 := Scalar.remsi arg12 c4_i32_25
  let c0_i32_30 : BitVec 32 := 0#32
  let v54 : BitVec 1 := Scalar.cmpi .ne v53 c0_i32_30
  let v55 : BitVec 1 := Scalar.andi v52 v54
  let v41 : BitVec 32 := Scalar.divsi arg12 c4_i32_25
  let c1_i32_31 : BitVec 32 := 1#32
  let v56 : BitVec 32 := Scalar.subi v41 c1_i32_31
  let v57 : BitVec 32 := Scalar.select v55 v56 v41
  let c512_i32_34 : BitVec 32 := 512#32
  let c4_i32 : BitVec 32 := 4#32
  let c0_i32_20 : BitVec 32 := 0#32
  let v31 : BitVec 1 := Scalar.cmpi .eq c4_i32 c0_i32_20
  let c1_i32_21 : BitVec 32 := 1#32
  let v32 : BitVec 32 := Scalar.select v31 c1_i32_21 c4_i32
  let v33 : BitVec 32 := Scalar.remsi arg12 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1_i32_32 : BitVec 32 := 1#32
  let v60 : BitVec 32 := Scalar.subi v40 c1_i32_32
  let c0_i32_33 : BitVec 32 := 0#32
  let v61 : BitVec 32 := Scalar.maxsi v60 c0_i32_33
  let v62 : BitVec 32 := Scalar.muli c512_i32_34 v61
  let v63 : BitVec 32 := Scalar.addi v57 v62
  let v75 : Index := Scalar.indexCast v63
  let c0_41 : Index := 0#32
  ![0, v75.toNat, 0]
def k0_off7 (k0_t2 : Fin k0_t2_loop.trips) : Fin 4 → Nat :=
  let c1_66 : Index := 1#32
  let c0_67 : Index := 0#32
  let c0_i32_8 : BitVec 32 := 0#32
  let c1_i32_10 : BitVec 32 := 1#32
  let arg12 : BitVec 32 := Scf.iv c0_i32_8 c1_i32_10 k0_t2
  let c0_i32_26 : BitVec 32 := 0#32
  let v42 : BitVec 1 := Scalar.cmpi .sgt arg12 c0_i32_26
  let v43 : BitVec 32 := Scalar.extui v42
  let c0_i32_27 : BitVec 32 := 0#32
  let v44 : BitVec 1 := Scalar.cmpi .slt arg12 c0_i32_27
  let v45 : BitVec 32 := Scalar.extui v44
  let v46 : BitVec 32 := Scalar.subi v43 v45
  let c4_i32_25 : BitVec 32 := 4#32
  let c0_i32_28 : BitVec 32 := 0#32
  let v47 : BitVec 1 := Scalar.cmpi .sgt c4_i32_25 c0_i32_28
  let v48 : BitVec 32 := Scalar.extui v47
  let c0_i32_29 : BitVec 32 := 0#32
  let v49 : BitVec 1 := Scalar.cmpi .slt c4_i32_25 c0_i32_29
  let v50 : BitVec 32 := Scalar.extui v49
  let v51 : BitVec 32 := Scalar.subi v48 v50
  let v52 : BitVec 1 := Scalar.cmpi .ne v46 v51
  let v53 : BitVec 32 := Scalar.remsi arg12 c4_i32_25
  let c0_i32_30 : BitVec 32 := 0#32
  let v54 : BitVec 1 := Scalar.cmpi .ne v53 c0_i32_30
  let v55 : BitVec 1 := Scalar.andi v52 v54
  let v41 : BitVec 32 := Scalar.divsi arg12 c4_i32_25
  let c1_i32_31 : BitVec 32 := 1#32
  let v56 : BitVec 32 := Scalar.subi v41 c1_i32_31
  let v57 : BitVec 32 := Scalar.select v55 v56 v41
  let c512_i32 : BitVec 32 := 512#32
  let c4_i32 : BitVec 32 := 4#32
  let c0_i32_20 : BitVec 32 := 0#32
  let v31 : BitVec 1 := Scalar.cmpi .eq c4_i32 c0_i32_20
  let c1_i32_21 : BitVec 32 := 1#32
  let v32 : BitVec 32 := Scalar.select v31 c1_i32_21 c4_i32
  let v33 : BitVec 32 := Scalar.remsi arg12 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let v58 : BitVec 32 := Scalar.muli c512_i32 v40
  let v59 : BitVec 32 := Scalar.addi v57 v58
  let v144 : Index := Scalar.indexCast v59
  let c0_68 : Index := 0#32
  ![1, 0, v144.toNat, 0]
def k0_off8 (k0_t2 : Fin k0_t2_loop.trips) : Fin 4 → Nat :=
  let c1_105 : Index := 1#32
  let c1_106 : Index := 1#32
  let c0_i32_8 : BitVec 32 := 0#32
  let c1_i32_10 : BitVec 32 := 1#32
  let arg12 : BitVec 32 := Scf.iv c0_i32_8 c1_i32_10 k0_t2
  let c0_i32_26 : BitVec 32 := 0#32
  let v42 : BitVec 1 := Scalar.cmpi .sgt arg12 c0_i32_26
  let v43 : BitVec 32 := Scalar.extui v42
  let c0_i32_27 : BitVec 32 := 0#32
  let v44 : BitVec 1 := Scalar.cmpi .slt arg12 c0_i32_27
  let v45 : BitVec 32 := Scalar.extui v44
  let v46 : BitVec 32 := Scalar.subi v43 v45
  let c4_i32_25 : BitVec 32 := 4#32
  let c0_i32_28 : BitVec 32 := 0#32
  let v47 : BitVec 1 := Scalar.cmpi .sgt c4_i32_25 c0_i32_28
  let v48 : BitVec 32 := Scalar.extui v47
  let c0_i32_29 : BitVec 32 := 0#32
  let v49 : BitVec 1 := Scalar.cmpi .slt c4_i32_25 c0_i32_29
  let v50 : BitVec 32 := Scalar.extui v49
  let v51 : BitVec 32 := Scalar.subi v48 v50
  let v52 : BitVec 1 := Scalar.cmpi .ne v46 v51
  let v53 : BitVec 32 := Scalar.remsi arg12 c4_i32_25
  let c0_i32_30 : BitVec 32 := 0#32
  let v54 : BitVec 1 := Scalar.cmpi .ne v53 c0_i32_30
  let v55 : BitVec 1 := Scalar.andi v52 v54
  let v41 : BitVec 32 := Scalar.divsi arg12 c4_i32_25
  let c1_i32_31 : BitVec 32 := 1#32
  let v56 : BitVec 32 := Scalar.subi v41 c1_i32_31
  let v57 : BitVec 32 := Scalar.select v55 v56 v41
  let c512_i32 : BitVec 32 := 512#32
  let c4_i32 : BitVec 32 := 4#32
  let c0_i32_20 : BitVec 32 := 0#32
  let v31 : BitVec 1 := Scalar.cmpi .eq c4_i32 c0_i32_20
  let c1_i32_21 : BitVec 32 := 1#32
  let v32 : BitVec 32 := Scalar.select v31 c1_i32_21 c4_i32
  let v33 : BitVec 32 := Scalar.remsi arg12 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let v58 : BitVec 32 := Scalar.muli c512_i32 v40
  let v59 : BitVec 32 := Scalar.addi v57 v58
  let v233 : Index := Scalar.indexCast v59
  let c0_107 : Index := 0#32
  ![1, 1, v233.toNat, 0]
@[reducible] def k0_t3_loop : Scf.Loop 32 :=
  let c0_i32_12 : BitVec 32 := 0#32
  let c16_i32_13 : BitVec 32 := 16#32
  let v29 : BitVec 32 := Scalar.addi c0_i32_12 c16_i32_13
  let c1_i32_14 : BitVec 32 := 1#32
  ⟨c0_i32_12, v29, c1_i32_14⟩
def k0_off9 (k0_t3 : Fin k0_t3_loop.trips) : Fin 3 → Nat :=
  let c0 : Index := 0#32
  let c0_i32_12 : BitVec 32 := 0#32
  let c1_i32_14 : BitVec 32 := 1#32
  let arg12 : BitVec 32 := Scf.iv c0_i32_12 c1_i32_14 k0_t3
  let c0_i32_27 : BitVec 32 := 0#32
  let v42 : BitVec 1 := Scalar.cmpi .sgt arg12 c0_i32_27
  let v43 : BitVec 32 := Scalar.extui v42
  let c0_i32_28 : BitVec 32 := 0#32
  let v44 : BitVec 1 := Scalar.cmpi .slt arg12 c0_i32_28
  let v45 : BitVec 32 := Scalar.extui v44
  let v46 : BitVec 32 := Scalar.subi v43 v45
  let c1_i32_26 : BitVec 32 := 1#32
  let c0_i32_29 : BitVec 32 := 0#32
  let v47 : BitVec 1 := Scalar.cmpi .sgt c1_i32_26 c0_i32_29
  let v48 : BitVec 32 := Scalar.extui v47
  let c0_i32_30 : BitVec 32 := 0#32
  let v49 : BitVec 1 := Scalar.cmpi .slt c1_i32_26 c0_i32_30
  let v50 : BitVec 32 := Scalar.extui v49
  let v51 : BitVec 32 := Scalar.subi v48 v50
  let v52 : BitVec 1 := Scalar.cmpi .ne v46 v51
  let v53 : BitVec 32 := Scalar.remsi arg12 c1_i32_26
  let c0_i32_31 : BitVec 32 := 0#32
  let v54 : BitVec 1 := Scalar.cmpi .ne v53 c0_i32_31
  let v55 : BitVec 1 := Scalar.andi v52 v54
  let v41 : BitVec 32 := Scalar.divsi arg12 c1_i32_26
  let c1_i32_32 : BitVec 32 := 1#32
  let v56 : BitVec 32 := Scalar.subi v41 c1_i32_32
  let v57 : BitVec 32 := Scalar.select v55 v56 v41
  let c2048_i32 : BitVec 32 := 2048#32
  let c1_i32_20 : BitVec 32 := 1#32
  let c0_i32_21 : BitVec 32 := 0#32
  let v31 : BitVec 1 := Scalar.cmpi .eq c1_i32_20 c0_i32_21
  let c1_i32_22 : BitVec 32 := 1#32
  let v32 : BitVec 32 := Scalar.select v31 c1_i32_22 c1_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v58 : BitVec 32 := Scalar.muli c2048_i32 v40
  let v59 : BitVec 32 := Scalar.addi v57 v58
  let v69 : Index := Scalar.indexCast v59
  let c0_39 : Index := 0#32
  ![0, v69.toNat, 0]
def k0_off10 (k0_t3 : Fin k0_t3_loop.trips) : Fin 3 → Nat :=
  let c0_41 : Index := 0#32
  let c0_i32_12 : BitVec 32 := 0#32
  let c1_i32_14 : BitVec 32 := 1#32
  let arg12 : BitVec 32 := Scf.iv c0_i32_12 c1_i32_14 k0_t3
  let c0_i32_27 : BitVec 32 := 0#32
  let v42 : BitVec 1 := Scalar.cmpi .sgt arg12 c0_i32_27
  let v43 : BitVec 32 := Scalar.extui v42
  let c0_i32_28 : BitVec 32 := 0#32
  let v44 : BitVec 1 := Scalar.cmpi .slt arg12 c0_i32_28
  let v45 : BitVec 32 := Scalar.extui v44
  let v46 : BitVec 32 := Scalar.subi v43 v45
  let c1_i32_26 : BitVec 32 := 1#32
  let c0_i32_29 : BitVec 32 := 0#32
  let v47 : BitVec 1 := Scalar.cmpi .sgt c1_i32_26 c0_i32_29
  let v48 : BitVec 32 := Scalar.extui v47
  let c0_i32_30 : BitVec 32 := 0#32
  let v49 : BitVec 1 := Scalar.cmpi .slt c1_i32_26 c0_i32_30
  let v50 : BitVec 32 := Scalar.extui v49
  let v51 : BitVec 32 := Scalar.subi v48 v50
  let v52 : BitVec 1 := Scalar.cmpi .ne v46 v51
  let v53 : BitVec 32 := Scalar.remsi arg12 c1_i32_26
  let c0_i32_31 : BitVec 32 := 0#32
  let v54 : BitVec 1 := Scalar.cmpi .ne v53 c0_i32_31
  let v55 : BitVec 1 := Scalar.andi v52 v54
  let v41 : BitVec 32 := Scalar.divsi arg12 c1_i32_26
  let c1_i32_32 : BitVec 32 := 1#32
  let v56 : BitVec 32 := Scalar.subi v41 c1_i32_32
  let v57 : BitVec 32 := Scalar.select v55 v56 v41
  let c2048_i32_35 : BitVec 32 := 2048#32
  let c1_i32_20 : BitVec 32 := 1#32
  let c0_i32_21 : BitVec 32 := 0#32
  let v31 : BitVec 1 := Scalar.cmpi .eq c1_i32_20 c0_i32_21
  let c1_i32_22 : BitVec 32 := 1#32
  let v32 : BitVec 32 := Scalar.select v31 c1_i32_22 c1_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1_i32_33 : BitVec 32 := 1#32
  let v60 : BitVec 32 := Scalar.subi v40 c1_i32_33
  let c0_i32_34 : BitVec 32 := 0#32
  let v61 : BitVec 32 := Scalar.maxsi v60 c0_i32_34
  let v62 : BitVec 32 := Scalar.muli c2048_i32_35 v61
  let v63 : BitVec 32 := Scalar.addi v57 v62
  let v75 : Index := Scalar.indexCast v63
  let c0_42 : Index := 0#32
  ![0, v75.toNat, 0]
def k0_off11 (k0_t3 : Fin k0_t3_loop.trips) : Fin 4 → Nat :=
  let c2_67 : Index := 2#32
  let c0_68 : Index := 0#32
  let c0_i32_12 : BitVec 32 := 0#32
  let c1_i32_14 : BitVec 32 := 1#32
  let arg12 : BitVec 32 := Scf.iv c0_i32_12 c1_i32_14 k0_t3
  let c0_i32_27 : BitVec 32 := 0#32
  let v42 : BitVec 1 := Scalar.cmpi .sgt arg12 c0_i32_27
  let v43 : BitVec 32 := Scalar.extui v42
  let c0_i32_28 : BitVec 32 := 0#32
  let v44 : BitVec 1 := Scalar.cmpi .slt arg12 c0_i32_28
  let v45 : BitVec 32 := Scalar.extui v44
  let v46 : BitVec 32 := Scalar.subi v43 v45
  let c1_i32_26 : BitVec 32 := 1#32
  let c0_i32_29 : BitVec 32 := 0#32
  let v47 : BitVec 1 := Scalar.cmpi .sgt c1_i32_26 c0_i32_29
  let v48 : BitVec 32 := Scalar.extui v47
  let c0_i32_30 : BitVec 32 := 0#32
  let v49 : BitVec 1 := Scalar.cmpi .slt c1_i32_26 c0_i32_30
  let v50 : BitVec 32 := Scalar.extui v49
  let v51 : BitVec 32 := Scalar.subi v48 v50
  let v52 : BitVec 1 := Scalar.cmpi .ne v46 v51
  let v53 : BitVec 32 := Scalar.remsi arg12 c1_i32_26
  let c0_i32_31 : BitVec 32 := 0#32
  let v54 : BitVec 1 := Scalar.cmpi .ne v53 c0_i32_31
  let v55 : BitVec 1 := Scalar.andi v52 v54
  let v41 : BitVec 32 := Scalar.divsi arg12 c1_i32_26
  let c1_i32_32 : BitVec 32 := 1#32
  let v56 : BitVec 32 := Scalar.subi v41 c1_i32_32
  let v57 : BitVec 32 := Scalar.select v55 v56 v41
  let c2048_i32 : BitVec 32 := 2048#32
  let c1_i32_20 : BitVec 32 := 1#32
  let c0_i32_21 : BitVec 32 := 0#32
  let v31 : BitVec 1 := Scalar.cmpi .eq c1_i32_20 c0_i32_21
  let c1_i32_22 : BitVec 32 := 1#32
  let v32 : BitVec 32 := Scalar.select v31 c1_i32_22 c1_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v58 : BitVec 32 := Scalar.muli c2048_i32 v40
  let v59 : BitVec 32 := Scalar.addi v57 v58
  let v144 : Index := Scalar.indexCast v59
  let c0_69 : Index := 0#32
  ![2, 0, v144.toNat, 0]
def k0_off12 (k0_t3 : Fin k0_t3_loop.trips) : Fin 4 → Nat :=
  let c2_105 : Index := 2#32
  let c1_106 : Index := 1#32
  let c0_i32_12 : BitVec 32 := 0#32
  let c1_i32_14 : BitVec 32 := 1#32
  let arg12 : BitVec 32 := Scf.iv c0_i32_12 c1_i32_14 k0_t3
  let c0_i32_27 : BitVec 32 := 0#32
  let v42 : BitVec 1 := Scalar.cmpi .sgt arg12 c0_i32_27
  let v43 : BitVec 32 := Scalar.extui v42
  let c0_i32_28 : BitVec 32 := 0#32
  let v44 : BitVec 1 := Scalar.cmpi .slt arg12 c0_i32_28
  let v45 : BitVec 32 := Scalar.extui v44
  let v46 : BitVec 32 := Scalar.subi v43 v45
  let c1_i32_26 : BitVec 32 := 1#32
  let c0_i32_29 : BitVec 32 := 0#32
  let v47 : BitVec 1 := Scalar.cmpi .sgt c1_i32_26 c0_i32_29
  let v48 : BitVec 32 := Scalar.extui v47
  let c0_i32_30 : BitVec 32 := 0#32
  let v49 : BitVec 1 := Scalar.cmpi .slt c1_i32_26 c0_i32_30
  let v50 : BitVec 32 := Scalar.extui v49
  let v51 : BitVec 32 := Scalar.subi v48 v50
  let v52 : BitVec 1 := Scalar.cmpi .ne v46 v51
  let v53 : BitVec 32 := Scalar.remsi arg12 c1_i32_26
  let c0_i32_31 : BitVec 32 := 0#32
  let v54 : BitVec 1 := Scalar.cmpi .ne v53 c0_i32_31
  let v55 : BitVec 1 := Scalar.andi v52 v54
  let v41 : BitVec 32 := Scalar.divsi arg12 c1_i32_26
  let c1_i32_32 : BitVec 32 := 1#32
  let v56 : BitVec 32 := Scalar.subi v41 c1_i32_32
  let v57 : BitVec 32 := Scalar.select v55 v56 v41
  let c2048_i32 : BitVec 32 := 2048#32
  let c1_i32_20 : BitVec 32 := 1#32
  let c0_i32_21 : BitVec 32 := 0#32
  let v31 : BitVec 1 := Scalar.cmpi .eq c1_i32_20 c0_i32_21
  let c1_i32_22 : BitVec 32 := 1#32
  let v32 : BitVec 32 := Scalar.select v31 c1_i32_22 c1_i32_20
  let v33 : BitVec 32 := Scalar.remsi arg12 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let v58 : BitVec 32 := Scalar.muli c2048_i32 v40
  let v59 : BitVec 32 := Scalar.addi v57 v58
  let v233 : Index := Scalar.indexCast v59
  let c0_107 : Index := 0#32
  ![2, 1, v233.toNat, 0]
@[reducible] def k0_t4_loop : Scf.Loop 32 :=
  let c0_i32_16 : BitVec 32 := 0#32
  let c16_i32_17 : BitVec 32 := 16#32
  let v30 : BitVec 32 := Scalar.addi c0_i32_16 c16_i32_17
  let c1_i32_18 : BitVec 32 := 1#32
  ⟨c0_i32_16, v30, c1_i32_18⟩
def k0_mult3 (k0_t4 : Fin k0_t4_loop.trips) : BitVec 32 :=
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  v31
def k0_off13 (k0_t4 : Fin k0_t4_loop.trips) : Fin 4 → Nat :=
  let c0 : Index := 0#32
  let c0_21 : Index := 0#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v33 : Index := Scalar.indexCast v32
  let c0_22 : Index := 0#32
  ![0, 0, v33.toNat, 0]
def k0_off14 (k0_t4 : Fin k0_t4_loop.trips) : Fin 4 → Nat :=
  let c1 : Index := 1#32
  let c0_23 : Index := 0#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v36 : Index := Scalar.indexCast v32
  let c0_24 : Index := 0#32
  ![1, 0, v36.toNat, 0]
def k0_off15 (k0_t4 : Fin k0_t4_loop.trips) : Fin 4 → Nat :=
  let c2 : Index := 2#32
  let c0_25 : Index := 0#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v39 : Index := Scalar.indexCast v32
  let c0_26 : Index := 0#32
  ![2, 0, v39.toNat, 0]
def k0_off16 (k0_t4 : Fin k0_t4_loop.trips) : Fin 4 → Nat :=
  let c0_50 : Index := 0#32
  let c1_51 : Index := 1#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v89 : Index := Scalar.indexCast v32
  let c0_52 : Index := 0#32
  ![0, 1, v89.toNat, 0]
def k0_off17 (k0_t4 : Fin k0_t4_loop.trips) : Fin 4 → Nat :=
  let c1_53 : Index := 1#32
  let c1_54 : Index := 1#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v92 : Index := Scalar.indexCast v32
  let c0_55 : Index := 0#32
  ![1, 1, v92.toNat, 0]
def k0_off18 (k0_t4 : Fin k0_t4_loop.trips) : Fin 4 → Nat :=
  let c2_56 : Index := 2#32
  let c1_57 : Index := 1#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v95 : Index := Scalar.indexCast v32
  let c0_58 : Index := 0#32
  ![2, 1, v95.toNat, 0]
def k0_off19 (k0_t4 : Fin k0_t4_loop.trips) : Fin 3 → Nat :=
  let c0_82 : Index := 0#32
  let c0_i32_16 : BitVec 32 := 0#32
  let c1_i32_18 : BitVec 32 := 1#32
  let arg12 : BitVec 32 := Scf.iv c0_i32_16 c1_i32_18 k0_t4
  let c128_i32_20 : BitVec 32 := 128#32
  let v31 : BitVec 32 := Scalar.muli arg12 c128_i32_20
  let v32 : BitVec 32 := v31
  let v146 : Index := Scalar.indexCast v32
  let c0_83 : Index := 0#32
  ![0, v146.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.NsaRunAF.lean ====
/- One run of the NSA body: scratch filled, odd key block skipped. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Nsa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At a point where the scratch is filled (`i == 0`) and the `lax.cond` that runs the odd key block is not taken: from any contents of the output block and of the four scratch arrays, the body runs to its end, leaving the nine input blocks as they were. -/
theorem runAF (c : Dev nD) (i : grid0.Coords) (arg2 : Memref sig .tc .vmem S1x2048x768 .f32) (harg2 : arg2.IsWhole) (arg3 : Memref sig .tc .vmem S1x2048x128 .f32) (harg3 : arg3.IsWhole) (arg4 : Memref sig .tc .vmem S32x128x512 .bf16) (harg4 : arg4.IsWhole) (arg5 : Memref sig .tc .vmem S32x128 .f32) (harg5 : arg5.IsWhole) (arg6 : Memref sig .tc .vmem S512x128 .bf16) (harg6 : arg6.IsWhole) (arg7 : Memref sig .tc .vmem S3x256x1024 .f32) (harg7 : arg7.IsWhole) (arg8 : Memref sig .tc .vmem S1x128x1024 .f32) (harg8 : arg8.IsWhole) (arg9 : Memref sig .tc .vmem S128x128 .f32) (harg9 : arg9.IsWhole) (arg10 : Memref sig .tc .vmem S2048x128 .bf16) (harg10 : arg10.IsWhole) (arg11 : Memref sig .tc .vmem S1x256x256 .f32) (harg11 : arg11.IsWhole) (arg12 : Memref sig .tc .vmem S8x80x256 .bf16) (harg12 : arg12.IsWhole) (arg13 : Memref sig .tc .vmem S8x80x256 .bf16) (harg13 : arg13.IsWhole) (arg14 : Memref sig .tc .vmem S128x128 .f32) (harg14 : arg14.IsWhole) (arg15 : Memref sig .tc .vmem S128x128 .f32) (harg15 : arg15.IsWhole)
    (hc0 : (Scalar.cmpi .ne (Scalar.extui (Scalar.cmpi .eq (BitVec.ofNat 32 (i 1).val) 0#32)) 0#32) = 1#1) (hc2 : ¬k0_cond2 i = 1#1)
    (x0 : Vec F S1x2048x768 .f32) (x1 : Vec F S1x2048x128 .f32) (x2 : Vec F S32x128x512 .bf16) (x3 : Vec F S32x128 .f32) (x4 : Vec F S512x128 .bf16) (x5 : Vec F S3x256x1024 .f32) (x6 : Vec F S1x128x1024 .f32) (x7 : Vec F S128x128 .f32) (x8 : Vec F S2048x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_nsa i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexists _; isplitr; swap
      · iexact H9
      ipureintro; rfl
    isplitl [H10]
    · iexists _; iexists _; isplitr; swap
      · iexact H10
      ipureintro; rfl
    isplitl [H11]
    · iexists _; iexists _; isplitr; swap
      · iexact H11
      ipureintro; rfl
    isplitl [H12]
    · iexists _; iexists _; isplitr; swap
      · iexact H12
      ipureintro; rfl
    iexists _; iexists _; isplitr; swap
    · iexact H13
    ipureintro; rfl

end Cert.KernelIdeal.Nsa

end
-- ==== Proof.NsaRunBF.lean ====
/- One run of the NSA body: scratch kept, odd key block skipped. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Nsa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At a point where the scratch is already filled and the `lax.cond` that runs the odd key block is not taken: from any contents of the output block and of the four scratch arrays, the body runs to its end, leaving the nine input blocks as they were. -/
theorem runBF (c : Dev nD) (i : grid0.Coords) (arg2 : Memref sig .tc .vmem S1x2048x768 .f32) (harg2 : arg2.IsWhole) (arg3 : Memref sig .tc .vmem S1x2048x128 .f32) (harg3 : arg3.IsWhole) (arg4 : Memref sig .tc .vmem S32x128x512 .bf16) (harg4 : arg4.IsWhole) (arg5 : Memref sig .tc .vmem S32x128 .f32) (harg5 : arg5.IsWhole) (arg6 : Memref sig .tc .vmem S512x128 .bf16) (harg6 : arg6.IsWhole) (arg7 : Memref sig .tc .vmem S3x256x1024 .f32) (harg7 : arg7.IsWhole) (arg8 : Memref sig .tc .vmem S1x128x1024 .f32) (harg8 : arg8.IsWhole) (arg9 : Memref sig .tc .vmem S128x128 .f32) (harg9 : arg9.IsWhole) (arg10 : Memref sig .tc .vmem S2048x128 .bf16) (harg10 : arg10.IsWhole) (arg11 : Memref sig .tc .vmem S1x256x256 .f32) (harg11 : arg11.IsWhole) (arg12 : Memref sig .tc .vmem S8x80x256 .bf16) (harg12 : arg12.IsWhole) (arg13 : Memref sig .tc .vmem S8x80x256 .bf16) (harg13 : arg13.IsWhole) (arg14 : Memref sig .tc .vmem S128x128 .f32) (harg14 : arg14.IsWhole) (arg15 : Memref sig .tc .vmem S128x128 .f32) (harg15 : arg15.IsWhole)
    (hc0 : ¬(Scalar.cmpi .ne (Scalar.extui (Scalar.cmpi .eq (BitVec.ofNat 32 (i 1).val) 0#32)) 0#32) = 1#1) (hc2 : ¬k0_cond2 i = 1#1)
    (x0 : Vec F S1x2048x768 .f32) (x1 : Vec F S1x2048x128 .f32) (x2 : Vec F S32x128x512 .bf16) (x3 : Vec F S32x128 .f32) (x4 : Vec F S512x128 .bf16) (x5 : Vec F S3x256x1024 .f32) (x6 : Vec F S1x128x1024 .f32) (x7 : Vec F S128x128 .f32) (x8 : Vec F S2048x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_nsa i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexists _; isplitr; swap
      · iexact H9
      ipureintro; rfl
    isplitl [H10]
    · iexists _; iexists _; isplitr; swap
      · iexact H10
      ipureintro; rfl
    isplitl [H11]
    · iexists _; iexists _; isplitr; swap
      · iexact H11
      ipureintro; rfl
    isplitl [H12]
    · iexists _; iexists _; isplitr; swap
      · iexact H12
      ipureintro; rfl
    iexists _; iexists _; isplitr; swap
    · iexact H13
    ipureintro; rfl

end Cert.KernelIdeal.Nsa

end
-- ==== Proof.NsaRunBT.lean ====
/- One run of the NSA body: scratch kept, odd key block run. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Nsa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At a point where the scratch is already filled and the `lax.cond` that runs the odd key block is taken: from any contents of the output block and of the four scratch arrays, the body runs to its end, leaving the nine input blocks as they were. -/
theorem runBT (c : Dev nD) (i : grid0.Coords) (arg2 : Memref sig .tc .vmem S1x2048x768 .f32) (harg2 : arg2.IsWhole) (arg3 : Memref sig .tc .vmem S1x2048x128 .f32) (harg3 : arg3.IsWhole) (arg4 : Memref sig .tc .vmem S32x128x512 .bf16) (harg4 : arg4.IsWhole) (arg5 : Memref sig .tc .vmem S32x128 .f32) (harg5 : arg5.IsWhole) (arg6 : Memref sig .tc .vmem S512x128 .bf16) (harg6 : arg6.IsWhole) (arg7 : Memref sig .tc .vmem S3x256x1024 .f32) (harg7 : arg7.IsWhole) (arg8 : Memref sig .tc .vmem S1x128x1024 .f32) (harg8 : arg8.IsWhole) (arg9 : Memref sig .tc .vmem S128x128 .f32) (harg9 : arg9.IsWhole) (arg10 : Memref sig .tc .vmem S2048x128 .bf16) (harg10 : arg10.IsWhole) (arg11 : Memref sig .tc .vmem S1x256x256 .f32) (harg11 : arg11.IsWhole) (arg12 : Memref sig .tc .vmem S8x80x256 .bf16) (harg12 : arg12.IsWhole) (arg13 : Memref sig .tc .vmem S8x80x256 .bf16) (harg13 : arg13.IsWhole) (arg14 : Memref sig .tc .vmem S128x128 .f32) (harg14 : arg14.IsWhole) (arg15 : Memref sig .tc .vmem S128x128 .f32) (harg15 : arg15.IsWhole)
    (hc0 : ¬(Scalar.cmpi .ne (Scalar.extui (Scalar.cmpi .eq (BitVec.ofNat 32 (i 1).val) 0#32)) 0#32) = 1#1) (hc2 : k0_cond2 i = 1#1)
    (x0 : Vec F S1x2048x768 .f32) (x1 : Vec F S1x2048x128 .f32) (x2 : Vec F S32x128x512 .bf16) (x3 : Vec F S32x128 .f32) (x4 : Vec F S512x128 .bf16) (x5 : Vec F S3x256x1024 .f32) (x6 : Vec F S1x128x1024 .f32) (x7 : Vec F S128x128 .f32) (x8 : Vec F S2048x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_nsa i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexists _; isplitr; swap
      · iexact H9
      ipureintro; rfl
    isplitl [H10]
    · iexists _; iexists _; isplitr; swap
      · iexact H10
      ipureintro; rfl
    isplitl [H11]
    · iexists _; iexists _; isplitr; swap
      · iexact H11
      ipureintro; rfl
    isplitl [H12]
    · iexists _; iexists _; isplitr; swap
      · iexact H12
      ipureintro; rfl
    iexists _; iexists _; isplitr; swap
    · iexact H13
    ipureintro; rfl

end Cert.KernelIdeal.Nsa

end
-- ==== Proof.NsaFrame.lean ====
/- The frame of the NSA call: its launch, from the runs of its body. -/
module

public import proofs.«01_k».proof.Proof.NsaRunAF
public import proofs.«01_k».proof.Proof.NsaRunBF
public import proofs.«01_k».proof.Proof.NsaRunBT
public import Idealize.ShloMosaic.Lib.Claim

@[expose] public section

set_option maxRecDepth 16384

noncomputable section

namespace Cert.KernelIdeal.Nsa

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first block of queries the window has an even number of whole blocks before it (none), so the odd one is not run. -/
theorem first_even (i : grid0.Coords) (h : (Scalar.cmpi .ne (Scalar.extui (Scalar.cmpi .eq (BitVec.ofNat 32 (i 1).val) 0#32)) 0#32) = 1#1) :
    ¬k0_cond2 i = 1#1 := by
  unfold k0_cond2
  generalize i 1 = n at h ⊢
  revert h
  revert n
  decide +kernel

variable (m : (ℓ : Loc nD τ sig) → Buf (Elt F) ℓ) (ρ : Dev nD → PrngReg)

/-- Window 0's staging memref at point `t`. -/
abbrev stg0 (t : Fin cfg0.N) : Memref sig .tc .vmem S1x2048x768 .f32 := win0_0.stage (cfg0.slots t 0)
/-- Window 1's staging memref at point `t`. -/
abbrev stg1 (t : Fin cfg0.N) : Memref sig .tc .vmem S1x2048x128 .f32 := win0_1.stage (cfg0.slots t 1)
/-- Window 2's staging memref at point `t`. -/
abbrev stg2 (t : Fin cfg0.N) : Memref sig .tc .vmem S32x128x512 .bf16 := win0_2.stage (cfg0.slots t 2)
/-- Window 3's staging memref at point `t`. -/
abbrev stg3 (t : Fin cfg0.N) : Memref sig .tc .vmem S32x128 .f32 := win0_3.stage (cfg0.slots t 3)
/-- Window 4's staging memref at point `t`. -/
abbrev stg4 (t : Fin cfg0.N) : Memref sig .tc .vmem S512x128 .bf16 := win0_4.stage (cfg0.slots t 4)
/-- Window 5's staging memref at point `t`. -/
abbrev stg5 (t : Fin cfg0.N) : Memref sig .tc .vmem S3x256x1024 .f32 := win0_5.stage (cfg0.slots t 5)
/-- Window 6's staging memref at point `t`. -/
abbrev stg6 (t : Fin cfg0.N) : Memref sig .tc .vmem S1x128x1024 .f32 := win0_6.stage (cfg0.slots t 6)
/-- Window 7's staging memref at point `t`. -/
abbrev stg7 (t : Fin cfg0.N) : Memref sig .tc .vmem S128x128 .f32 := win0_7.stage (cfg0.slots t 7)
/-- Window 8's staging memref at point `t`. -/
abbrev stg8 (t : Fin cfg0.N) : Memref sig .tc .vmem S2048x128 .bf16 := win0_8.stage (cfg0.slots t 8)
/-- Window 9's staging memref at point `t`. -/
abbrev stg9 (t : Fin cfg0.N) : Memref sig .tc .vmem S1x256x256 .f32 := win0_9.stage (cfg0.slots t 9)
/-- Scratch array 0, whole. -/
abbrev scr0 : Memref sig .tc .vmem S8x80x256 .bf16 := Memref.whole cc0_scratch0
/-- Scratch array 1, whole. -/
abbrev scr1 : Memref sig .tc .vmem S8x80x256 .bf16 := Memref.whole cc0_scratch1
/-- Scratch array 2, whole. -/
abbrev scr2 : Memref sig .tc .vmem S128x128 .f32 := Memref.whole cc0_scratch2
/-- Scratch array 3, whole. -/
abbrev scr3 : Memref sig .tc .vmem S128x128 .f32 := Memref.whole cc0_scratch3

/-- What the region keeps between points: the four scratch arrays at some contents, and the generator register at some state. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The window whose contents are not followed: the output. -/
def forgets : Fin 10 → Bool := fun w => w.val == 9

/-- The launch's proof data: the arrays as the host part leaves them, every input block unchanged by the body, the output not
    followed, the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

/-- The proof data's arrays are those the region finds. -/
theorem A_eq (c : Dev nD) (w : Fin cfg0.W) : (dats m 0 c).A w = V m c (Pipeline.arrRef spec0 w) := by
  dsimp only [dats]

/-- The body leaves input block 0 in place. -/
theorem after0 (c : Dev nD) (t : Fin cfg0.N) : (dats m 0 c).after 0 t = iblk m c 0 t := by dsimp only [dats]
/-- Input window 0 holds its block when the body starts. -/
theorem before0 (c : Dev nD) (t : Fin cfg0.N) (d) : (dats m 0 c).before 0 t d = iblk m c 0 t :=
  before0_0_of m (dats m 0 c) (A_eq m c 0) (after0 m c) t d
/-- The body leaves input block 1 in place. -/
theorem after1 (c : Dev nD) (t : Fin cfg0.N) : (dats m 0 c).after 1 t = iblk m c 1 t := by dsimp only [dats]
/-- Input window 1 holds its block when the body starts. -/
theorem before1 (c : Dev nD) (t : Fin cfg0.N) (d) : (dats m 0 c).before 1 t d = iblk m c 1 t :=
  before0_1_of m (dats m 0 c) (A_eq m c 1) (after1 m c) t d
/-- The body leaves input block 2 in place. -/
theorem after2 (c : Dev nD) (t : Fin cfg0.N) : (dats m 0 c).after 2 t = iblk m c 2 t := by dsimp only [dats]
/-- Input window 2 holds its block when the body starts. -/
theorem before2 (c : Dev nD) (t : Fin cfg0.N) (d) : (dats m 0 c).before 2 t d = iblk m c 2 t :=
  before0_2_of m (dats m 0 c) (A_eq m c 2) (after2 m c) t d
/-- The body leaves input block 3 in place. -/
theorem after3 (c : Dev nD) (t : Fin cfg0.N) : (dats m 0 c).after 3 t = iblk m c 3 t := by dsimp only [dats]
/-- Input window 3 holds its block when the body starts. -/
theorem before3 (c : Dev nD) (t : Fin cfg0.N) (d) : (dats m 0 c).before 3 t d = iblk m c 3 t :=
  before0_3_of m (dats m 0 c) (A_eq m c 3) (after3 m c) t d
/-- The body leaves input block 4 in place. -/
theorem after4 (c : Dev nD) (t : Fin cfg0.N) : (dats m 0 c).after 4 t = iblk m c 4 t := by dsimp only [dats]
/-- Input window 4 holds its block when the body starts. -/
theorem before4 (c : Dev nD) (t : Fin cfg0.N) (d) : (dats m 0 c).before 4 t d = iblk m c 4 t :=
  before0_4_of m (dats m 0 c) (A_eq m c 4) (after4 m c) t d
/-- The body leaves input block 5 in place. -/
theorem after5 (c : Dev nD) (t : Fin cfg0.N) : (dats m 0 c).after 5 t = iblk m c 5 t := by dsimp only [dats]
/-- Input window 5 holds its block when the body starts. -/
theorem before5 (c : Dev nD) (t : Fin cfg0.N) (d) : (dats m 0 c).before 5 t d = iblk m c 5 t :=
  before0_5_of m (dats m 0 c) (A_eq m c 5) (after5 m c) t d
/-- The body leaves input block 6 in place. -/
theorem after6 (c : Dev nD) (t : Fin cfg0.N) : (dats m 0 c).after 6 t = iblk m c 6 t := by dsimp only [dats]
/-- Input window 6 holds its block when the body starts. -/
theorem before6 (c : Dev nD) (t : Fin cfg0.N) (d) : (dats m 0 c).before 6 t d = iblk m c 6 t :=
  before0_6_of m (dats m 0 c) (A_eq m c 6) (after6 m c) t d
/-- The body leaves input block 7 in place. -/
theorem after7 (c : Dev nD) (t : Fin cfg0.N) : (dats m 0 c).after 7 t = iblk m c 7 t := by dsimp only [dats]
/-- Input window 7 holds its block when the body starts. -/
theorem before7 (c : Dev nD) (t : Fin cfg0.N) (d) : (dats m 0 c).before 7 t d = iblk m c 7 t :=
  before0_7_of m (dats m 0 c) (A_eq m c 7) (after7 m c) t d
/-- The body leaves input block 8 in place. -/
theorem after8 (c : Dev nD) (t : Fin cfg0.N) : (dats m 0 c).after 8 t = iblk m c 8 t := by dsimp only [dats]
/-- Input window 8 holds its block when the body starts. -/
theorem before8 (c : Dev nD) (t : Fin cfg0.N) (d) : (dats m 0 c).before 8 t d = iblk m c 8 t :=
  before0_8_of m (dats m 0 c) (A_eq m c 8) (after8 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare d))

/-- What the body ends with at point `t`. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ (∃ d, owns (c : Thread nD τ) (stg9 t) fullShare d))

set_option maxHeartbeats 9600000 in
/-- The body's triple at every point: by cases on its two conditions, that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8]
  rw [show (dats m 0 c).Φ t.succ = Pipeline.ΦA spec0 c from rfl, show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  by_cases h0 : (Scalar.cmpi .ne (Scalar.extui (Scalar.cmpi .eq (BitVec.ofNat 32 ((grid0.coords t) 1).val) 0#32)) 0#32) = 1#1 <;>
    by_cases h2 : k0_cond2 (grid0.coords t) = 1#1
  · exact absurd h2 (first_even _ h0)
  · iapply (runAF c (grid0.coords t) _ _ _ _ _ _ _ _ _ _ _ _ _ _ _ _ _ _ _ _ _ _ _ _ _ _ _ _ h0 h2 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iapply (runBT c (grid0.coords t) _ _ _ _ _ _ _ _ _ _ _ _ _ _ _ _ _ _ _ _ _ _ _ _ _ _ _ _ h0 h2 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iapply (runBF c (grid0.coords t) _ _ _ _ _ _ _ _ _ _ _ _ _ _ _ _ _ _ _ _ _ _ _ _ _ _ _ _ h0 h2 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point is the body at that point's buffers. -/
theorem defs_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

-- the launch rule's implicit arguments are found by unifying its conclusion with this one
set_option backward.isDefEq.respectTransparency.types false in
/-- The launch: every fair execution of the program ends, the arrays the region does not write are as it found them, and every
    semaphore counter is zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The frame at any values: every fair execution ends with the twelve argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main m ρ)

end Cert.KernelIdeal.Nsa

end
-- ==== Proof.Nsa.lean ====
module

public import proofs.«01_k».proof.Defs
public import proofs.«01_k».proof.Proof.Gen.Kernel
public import proofs.«01_k».proof.Proof.NsaFrame

/-! The frames of the sparse attention call, over float words and over the extended reals: one run for both. -/

@[expose] public section

noncomputable section

open Idealize.ShloMosaic Idealize.ShloMosaic.TcCoe Idealize.SL.Sem

namespace Cert.NsaClaims

set_option maxHeartbeats 4000000 in
/-- The two programs' kernel bodies are the same text. -/
theorem body_eq : @Cert.Kernel.defs₀ Bits _ _ = @Cert.KernelIdeal.defs₀ Bits _ _ := by
  unfold Cert.Kernel.defs₀ Cert.KernelIdeal.defs₀
  congr 1
  funext l x
  match l, x with
  | 0, (t, s) => rfl

/-- So are their tables of procedures. -/
theorem defs_eq : @Cert.Kernel.defs Bits _ _ = @Cert.KernelIdeal.defs Bits _ _ :=
  congrArg (Pipeline.defs (Cert.KernelIdeal.pcfgs (F := Bits))) body_eq

set_option maxHeartbeats 4000000 in
/-- So are their host programs. -/
theorem main_eq : @Cert.Kernel.main Bits _ _ = @Cert.KernelIdeal.main Bits _ _ := rfl

/-- The frame of the program over float words: the run made once for any values, read there. -/
theorem frame_kernel : Cert.quiescent_Kernel := fun m ρ _ => by
  rw [defs_eq, main_eq]
  exact Cert.KernelIdeal.Nsa.frame (F := Bits) m ρ

/-- The frame of the program over the extended reals. -/
theorem frame_ideal : Cert.quiescent_KernelIdeal := fun m ρ _ => Cert.KernelIdeal.Nsa.frame (F := Ideal) m ρ

end Cert.NsaClaims

end
-- ==== Proof.Rows.lean ====
module

public import Idealize.ShloMosaic.Lib.Pointwise

/-! The normalised row both layer norms compute, over the extended reals. -/

@[expose] public section

set_option maxRecDepth 16384

noncomputable section

open Idealize.ShloMosaic Idealize.SL.Sem
open scoped BigOperators

namespace Cert.Rows

/-- The number of entries of a row, as its float word is read. -/
abbrev width : EReal := Ideal.ofBits .f32 0x44800000#32

/-- The mean of a row of 1024 entries. -/
def mean (z : Fin 1024 → EReal) : EReal := Ideal.div (∑ k, z k) width

/-- Entry `l` of the layer norm of the row `z`, with gain `g` and offset `b`: the row less its mean, times the
    inverse root of its mean square plus the small constant. -/
def norm (z : Fin 1024 → EReal) (g b : EReal) (l : Fin 1024) : EReal :=
  (z l - mean z) * Ideal.rsqrt (Ideal.div (∑ k, (z k - mean z) * (z k - mean z)) width + Ideal.ofBits .f32 0x3727C5AC#32) * g + b

/-- Equal rows, gains and offsets have equal layer norms. -/
theorem norm_congr {z z' : Fin 1024 → EReal} {g g' b b' : EReal} (l : Fin 1024) (hz : ∀ k, z k = z' k) (hg : g = g') (hb : b = b') :
    norm z g b l = norm z' g' b' l := by
  have h : z = z' := funext hz
  rw [h, hg, hb]

/-- A sum over 1024 lanes is the sums over its four quarters, one after the other. -/
theorem sum_four (f : Fin 1024 → EReal) (g0 g1 g2 g3 : Fin 256 → EReal)
    (h0 : ∀ k : Fin 256, f ⟨k.val, by omega⟩ = g0 k) (h1 : ∀ k : Fin 256, f ⟨256 + k.val, by omega⟩ = g1 k)
    (h2 : ∀ k : Fin 256, f ⟨512 + k.val, by omega⟩ = g2 k) (h3 : ∀ k : Fin 256, f ⟨768 + k.val, by omega⟩ = g3 k) :
    ∑ k, f k = ((∑ k, g0 k + ∑ k, g1 k) + ∑ k, g2 k) + ∑ k, g3 k := by
  rw [Fin.sum_univ_tiles 4 256 rfl f, Fin.sum_univ_four]
  refine congrArg₂ (· + ·) (congrArg₂ (· + ·) (congrArg₂ (· + ·) ?_ ?_) ?_) ?_ <;> refine Finset.sum_congr rfl fun k _ => ?_
  · rw [← h0]; exact congrArg f (Fin.ext (by simp))
  · rw [← h1]; exact congrArg f (Fin.ext (by simp))
  · rw [← h2]; exact congrArg f (Fin.ext (by simp))
  · rw [← h3]; exact congrArg f (Fin.ext (by simp))

end Cert.Rows

end
-- ==== Proof.FfnRef.lean ====
module

public import proofs.«01_k».proof.Proof.Rows
public import proofs.«01_k».proof.Proof.Gen.Reference2Ideal.Run

/-! The reference of the feed-forward network: its result row by row. -/

@[expose] public section

set_option maxRecDepth 16384

noncomputable section

namespace Cert.Reference2Ideal.Value

open Cert.Reference2Ideal Cert.Reference2Ideal.Gen Idealize.ShloMosaic Idealize.ShloMosaic.TcCoe Idealize.SL.Sem
open scoped BigOperators

/-- What the layer norm of the reference is taken of. -/
def pre (a0 : FVec Ideal S16x2048x1024 .f32) (a1 : FVec Ideal S1024x4096 .f32) (a2 : FVec Ideal S4096 .f32) (a3 : FVec Ideal S4096x1024 .f32) (a4 : FVec Ideal S1024 .f32) : FVec Ideal S16x2048x1024 .f32 :=
  addf (mulf (broadcastInDim S16x2048x1024 ![] bcast_S_S16x2048x1024 (constant S_ .f32 0x3FB504F3#32)) a0) (addf (Host.dotGeneral dot_S16x2048x4096_S4096x1024_S16x2048x1024_2_0_01_1_n_n none (mulf (maximumf (addf (Host.dotGeneral dot_S16x2048x1024_S1024x4096_S16x2048x4096_2_0_01_1_n_n none a0 a1) (broadcastInDim S16x2048x4096 ![0, 1, 2] bcast_S1x1x4096_S16x2048x4096_0_1_2 (broadcastInDim S1x1x4096 ![2] bcast_S4096_S1x1x4096_2 a2))) (broadcastInDim S16x2048x4096 ![] bcast_S_S16x2048x4096 (constant S_ .f32 0x00000000#32))) (maximumf (addf (Host.dotGeneral dot_S16x2048x1024_S1024x4096_S16x2048x4096_2_0_01_1_n_n none a0 a1) (broadcastInDim S16x2048x4096 ![0, 1, 2] bcast_S1x1x4096_S16x2048x4096_0_1_2 (broadcastInDim S1x1x4096 ![2] bcast_S4096_S1x1x4096_2 a2))) (broadcastInDim S16x2048x4096 ![] bcast_S_S16x2048x4096 (constant S_ .f32 0x00000000#32)))) a3) (broadcastInDim S16x2048x1024 ![0, 1, 2] bcast_S1x1x1024_S16x2048x1024_0_1_2 (broadcastInDim S1x1x1024 ![2] bcast_S1024_S1x1x1024_2 a4)))

/-- The reference's layer norm along the last axis. -/
def ln (z : FVec Ideal S16x2048x1024 .f32) (g b : FVec Ideal S1024 .f32) : FVec Ideal S16x2048x1024 .f32 :=
  addf (mulf (mulf (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))))) (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32)))))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S1x1x1024_S16x2048x1024_0_1_2 (broadcastInDim S1x1x1024 ![2] bcast_S1024_S1x1x1024_2 b))

/-- The reference's result as a function of its arguments. -/
def res (a0 : FVec Ideal S16x2048x1024 .f32) (a1 : FVec Ideal S1024x4096 .f32) (a2 : FVec Ideal S4096 .f32) (a3 : FVec Ideal S4096x1024 .f32) (a4 : FVec Ideal S1024 .f32) (a5 : FVec Ideal S1024 .f32) (a6 : FVec Ideal S1024 .f32) : FVec Ideal S32768x1024 .f32 :=
  shapeCast _ (ln (pre a0 a1 a2 a3 a4) a5 a6) shapeCasts_S16x2048x1024_S32768x1024

/-- The run's composed term is `res` of the argument arrays. -/
theorem res_eq (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res ln pre res_out0 res_main_v37
  rfl

/-- The layer norm at an index is the normalised row there. -/
theorem ln_at (z : FVec Ideal S16x2048x1024 .f32) (g b : FVec Ideal S1024 .f32) (a : Fin 16) (s : Fin 2048) (l : Fin 1024) :
    ln z g b (ix3 a s l) = Rows.norm (fun k => z (ix3 a s k)) (g (ix1 l)) (b (ix1 l)) l := by
  pointwise [ln, Rows.norm, Rows.mean, Rows.width]

/-- The result at row `r` and lane `l`: the rows of the batch lie one after the other. -/
theorem res_at (a0 : FVec Ideal S16x2048x1024 .f32) (a1 : FVec Ideal S1024x4096 .f32) (a2 : FVec Ideal S4096 .f32) (a3 : FVec Ideal S4096x1024 .f32) (a4 : FVec Ideal S1024 .f32) (a5 : FVec Ideal S1024 .f32) (a6 : FVec Ideal S1024 .f32) (r : Fin 32768) (l : Fin 1024) :
    res a0 a1 a2 a3 a4 a5 a6 (ix2 r l)
      = Rows.norm (fun k => pre a0 a1 a2 a3 a4 (ix3 ⟨r.val / 2048, by omega⟩ ⟨r.val % 2048, by omega⟩ k)) (a5 (ix1 l)) (a6 (ix1 l)) l := by
  rw [← ln_at]
  pointwise [res]

/-- The residual plus the feed-forward network at an index. -/
theorem pre_at (a0 : FVec Ideal S16x2048x1024 .f32) (a1 : FVec Ideal S1024x4096 .f32) (a2 : FVec Ideal S4096 .f32)
    (a3 : FVec Ideal S4096x1024 .f32) (a4 : FVec Ideal S1024 .f32) (a : Fin 16) (s : Fin 2048) (l : Fin 1024) :
    pre a0 a1 a2 a3 a4 (ix3 a s l)
      = Ideal.ofBits .f32 0x3FB504F3#32 * a0 (ix3 a s l)
        + ((∑ k : Fin 4096, (max ((∑ p : Fin 1024, a0 (ix3 a s p) * a1 (ix2 p k)) + a2 (ix1 k)) 0
            * max ((∑ p : Fin 1024, a0 (ix3 a s p) * a1 (ix2 p k)) + a2 (ix1 k)) 0) * a3 (ix2 k l)) + a4 (ix1 l)) := by
  pointwise [pre]

end Cert.Reference2Ideal.Value

end
-- ==== Proof.FfnValue.lean ====
module

public import proofs.«01_k».proof.Proof.Gen.Kernel2Ideal.Value
public import proofs.«01_k».proof.Proof.FfnRef
public import Idealize.ShloMosaic.Lib.Pipeline.ValueKit

/-! The feed-forward network: the kernel's result array is the reference's. -/

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen

variable (m : (ℓ : Loc nD τ sig) → Buf (Elt Ideal) ℓ)

/-- Every window's block at every grid point: four points share a block of rows, and each of the four has its quarter of the
    hidden layer. -/
theorem idx : ∀ t : Fin cfg0.N, win0_0.index t = ![t.val / 4, 0]
    ∧ win0_1.index t = ![0, t.val % 4]
    ∧ win0_2.index t = ![0, t.val % 4]
    ∧ win0_3.index t = ![t.val % 4, 0]
    ∧ win0_4.index t = ![0, 0]
    ∧ win0_5.index t = ![0, 0]
    ∧ win0_6.index t = ![0, 0]
    ∧ win0_7.index t = ![t.val / 4, 0] :=
  (by decide +kernel : ∀ t : Fin grid0.N, _)

/-- The body's norm at an index is the normalised row of the residual and the accumulated network. -/
theorem norm_at (x acc : FVec Ideal S1024x1024 .f32) (o g b : FVec Ideal S1x1024 .f32) (r l : Fin 1024) :
    k0_pay4 (F := Ideal) x acc o g b (ix2 r l)
      = Rows.norm (fun k => Ideal.ofBits .f32 0x3FB504F3#32 * x (ix2 r k) + (acc (ix2 r k) + o (ix2 0 k))) (g (ix2 0 l)) (b (ix2 0 l)) l := by
  pointwise [k0_pay4, Rows.norm, Rows.mean, Rows.width]

/-- One hidden unit, the squared positive part of its row's product with the weights. -/
def unit (x w : S1024x1024.Idx → EReal) (o : S1x1024.Idx → EReal) (r k : Fin 1024) : EReal :=
  max ((∑ p : Fin 1024, x (ix2 r p) * w (ix2 p k)) + o (ix2 0 k)) 0 * max ((∑ p : Fin 1024, x (ix2 r p) * w (ix2 p k)) + o (ix2 0 k)) 0

/-- What a point adds to the accumulator: its quarter of the second product. -/
def part (x w : S1024x1024.Idx → EReal) (o : S1x1024.Idx → EReal) (v : S1024x1024.Idx → EReal) (j : S1024x1024.Idx) : EReal :=
  ∑ k : Fin 1024, unit x w o (j 0) k * v (ix2 k (j 1))

/-- The accumulating payload adds the point's part. -/
theorem acc_at (x w : FVec Ideal S1024x1024 .bf16) (o : FVec Ideal S1x1024 .f32) (acc : FVec Ideal S1024x1024 .f32) (v : FVec Ideal S1024x1024 .bf16)
    (j : S1024x1024.Idx) : k0_pay3 (F := Ideal) x w o acc v j = acc j + part x w o v j := by
  pointwise [k0_pay3, part, unit]

/-- The stored copy of the rows is the rows. -/
theorem copy_eq (x : FVec Ideal S1024x1024 .f32) : k0_pay1 (F := Ideal) x = x := by
  funext j
  pointwise [k0_pay1]

/-- The accumulator starts at zero. -/
theorem zero_at (j : S1024x1024.Idx) : k0_pay2 (F := Ideal) j = 0 := by
  pointwise [k0_pay2]

/-- The rows' block is the same at the four points of a run. -/
theorem rows_eq (c : Dev nD) (t : Fin cfg0.N) (h : ¬t.val % 4 = 0) (h' : t.val - 1 < cfg0.N) :
    iblk m c 0 ⟨t.val - 1, h'⟩ = iblk m c 0 t := by
  have e : (t.val - 1) / 4 = t.val / 4 := by omega
  funext y
  blk_ext [iblk, V, idx t, idx ⟨t.val - 1, h'⟩, e]

/-- The first scratch holds the run's rows at every point. -/
theorem copy_held (c : Dev nD) : ∀ (n : ℕ) (h : n < cfg0.N), (outsAt0 m c n h).2.1 = (show S1024x1024.Idx → EReal from iblk m c 0 ⟨n, h⟩) := by
  intro n
  induction n with
  | zero =>
    intro h
    rw [outsAt0_A m c ⟨0, h⟩ (Nat.zero_mod 4) (by simp)]
    frame_out
    exact copy_eq _
  | succ n ih =>
    intro h
    by_cases h0 : (n + 1) % 4 = 0
    · rw [outsAt0_A m c ⟨n + 1, h⟩ h0 (by dsimp only; omega)]
      frame_out
      exact copy_eq _
    · have e := rows_eq m c ⟨n + 1, h⟩ h0 (by dsimp only; omega)
      by_cases h1 : (n + 1) % 4 = 3
      · rw [outsAt0_C m c ⟨n + 1, h⟩ h0 h1]
        frame_out
        exact (ih _).trans e
      · rw [outsAt0_B m c ⟨n + 1, h⟩ h0 h1]
        frame_out
        exact (ih _).trans e

/-- The part a grid point adds, over its blocks. -/
abbrev term (c : Dev nD) (t : Fin cfg0.N) (j : S1024x1024.Idx) : EReal :=
  part (iblk m c 0 t) (iblk m c 1 t) (iblk m c 2 t) (iblk m c 3 t) j

/-- The accumulator after the first point of a run. -/
theorem acc_first (c : Dev nD) (t : Fin cfg0.N) (h : t.val % 4 = 0) (j : S1024x1024.Idx) :
    (outsAt0 m c t.val t.isLt).2.2 j = (0 : EReal) + term m c t j := by
  rw [outsAt0_A m c t h (by omega)]
  frame_out
  rw [acc_at, zero_at, copy_eq]

/-- The accumulator after a later point of a run. -/
theorem acc_next (c : Dev nD) (t : Fin cfg0.N) (h : ¬t.val % 4 = 0) (j : S1024x1024.Idx) :
    (outsAt0 m c t.val t.isLt).2.2 j
      = ((outsAt0 m c (t.val - 1) (Nat.lt_of_le_of_lt (Nat.sub_le _ _) t.isLt)).2.2 j : EReal) + term m c t j := by
  have e := (copy_held m c (t.val - 1) (Nat.lt_of_le_of_lt (Nat.sub_le _ _) t.isLt)).trans (rows_eq m c t h _)
  by_cases h1 : t.val % 4 = 3
  · rw [outsAt0_C m c t h h1]
    frame_out
    rw [acc_at, e]
    exact congrArg₂ (· + ·) (congrFun ((Memref.isWhole_whole cc0_scratch1).read_unread _) j)
      (congrArg (fun x => part x _ _ _ j) ((Memref.isWhole_whole cc0_scratch0).read_unread _))
  · rw [outsAt0_B m c t h h1]
    frame_out
    rw [acc_at, e]
    exact congrArg₂ (· + ·) (congrFun ((Memref.isWhole_whole cc0_scratch1).read_unread _) j)
      (congrArg (fun x => part x _ _ _ j) ((Memref.isWhole_whole cc0_scratch0).read_unread _))

/-- At the last point of a run the accumulator is the sum of the four parts. -/
theorem acc_last (c : Dev nD) (t : Fin cfg0.N) (h : t.val % 4 = 3) (j : S1024x1024.Idx) :
    (outsAt0 m c t.val t.isLt).2.2 j
      = ∑ s : Fin 4, term m c ⟨4 * (t.val / 4) + s.val, Pipeline.run_point_lt_of_flush t h s⟩ j := by
  refine (Pipeline.eq_sum_fin_of_reset_step_apply_of_flush (M := EReal) (fun n h => (outsAt0 m c n h).2.2) 4 (fun _ => 0) (term m c)
    (acc_first m c) (acc_next m c) t h j).trans ?_
  exact zero_add _

/-- At the last point of a run the output block is the norm over the accumulator. -/
theorem out_last (c : Dev nD) (t : Fin cfg0.N) (h : t.val % 4 = 3) :
    (outsAt0 m c t.val t.isLt).1
      = k0_pay4 (F := Ideal) (iblk m c 0 t) (outsAt0 m c t.val t.isLt).2.2 (iblk m c 4 t) (iblk m c 5 t) (iblk m c 6 t) := by
  rw [outsAt0_C m c t (by omega) h]
  frame_out

/-- The result over the kernel's own argument arrays. -/
abbrev target (c : Dev nD) : FVec Ideal S32768x1024 .f32 :=
  Cert.Reference2Ideal.Value.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the last point of a run stores at row `p` of its block is the result at that row of the array. -/
theorem point (c : Dev nD) (t : Fin cfg0.N) (h : t.val % 4 = 3) (p l : Fin 1024) (q : Fin 32768) (hq : q.val = t.val / 4 * 1024 + p.val) :
    (outsAt0 m c t.val t.isLt).1 (ix2 p l) = target m c (ix2 q l) := by
  rw [out_last m c t h]
  refine (norm_at _ _ _ _ _ p l).trans ((Rows.norm_congr l (fun k => ?_) ?_ ?_).trans (Cert.Reference2Ideal.Value.res_at _ _ _ _ _ _ _ q l).symm)
  · refine Eq.trans ?_ (Cert.Reference2Ideal.Value.pre_at _ _ _ _ _ _ _ k).symm
    refine congrArg₂ (· + ·) ?_ (congrArg₂ (· + ·) ((acc_last m c t h _).trans ?_) ?_)
    · blk_point [iblk, V, idx t]
    · refine Fin.sum_mul_add_congr fun s k hl => ?_
      have e := idx ⟨4 * (t.val / 4) + s.val, Pipeline.run_point_lt_of_flush t h s⟩
      have e1 : (4 * (t.val / 4) + s.val) / 4 = t.val / 4 := by omega
      have e2 : (4 * (t.val / 4) + s.val) % 4 = s.val := by omega
      dsimp only at e
      rw [e1, e2] at e
      unfold unit
      blk_point [iblk, V, e]
    · blk_point [iblk, V, idx t]
  · blk_point [iblk, V, idx t]
  · blk_point [iblk, V, idx t]

/-- The result array after the run is the reference's result. -/
theorem final (c : Dev nD) : (dats m 0 c).arrAt 7 (cfgs 0).N = target m c := by
  refine (dats m 0 c).arrAt_eq_of_covers 7 _ (by decide +kernel) fun t hf y => ?_
  blk_simp
  rw [after0_7]
  have h := (flush0_7 t).mp hf
  have ht : t.val < 128 := t.isLt
  have hy : (y 0).val < 1024 := (y 0).isLt
  refine Eq.trans ?_ ((point m c t h (y 0) (y 1) ⟨t.val / 4 * 1024 + (y 0).val, by omega⟩ rfl).trans ?_)
  · exact congrArg _ (eq_ix2 y)
  · blk_ext [idx t]

end Cert.Kernel2Ideal.Ffn

end
-- ==== Proof.Ffn.lean ====
module

public import proofs.«01_k».proof.Defs
public import proofs.«01_k».proof.Proof.Gen.Kernel2
public import proofs.«01_k».proof.Proof.FfnValue

/-! The claims of the feed-forward network: its frames, and its result against the reference's. -/

@[expose] public section

noncomputable section

open Idealize.ShloMosaic Idealize.ShloMosaic.TcCoe Idealize.SL.Sem

namespace Cert.FfnClaims

/-- The two programs' kernel bodies are the same text. -/
theorem body_eq : @Cert.Kernel2.defs₀ Bits _ _ = @Cert.Kernel2Ideal.defs₀ Bits _ _ := by
  unfold Cert.Kernel2.defs₀ Cert.Kernel2Ideal.defs₀
  congr 1
  funext l x
  match l, x with
  | 0, (t, s) => rfl

/-- So are their tables of procedures. -/
theorem defs_eq : @Cert.Kernel2.defs Bits _ _ = @Cert.Kernel2Ideal.defs Bits _ _ :=
  congrArg (Pipeline.defs (Cert.Kernel2Ideal.pcfgs (F := Bits))) body_eq

/-- The frame of the program over float words: the run made once for any values, read there. -/
theorem frame_kernel : Cert.quiescent_Kernel2 := fun m ρ _ =>
  (congrArg (fun d => θ_run d _ _ _) defs_eq).mpr (Cert.Kernel2Ideal.Gen.frame (F := Bits) m ρ)

/-- The frame of the program over the extended reals. -/
theorem frame_ideal : Cert.quiescent_Kernel2Ideal := fun m ρ _ => Cert.Kernel2Ideal.Gen.frame (F := Ideal) m ρ

/-- The frame of the reference. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Over the extended reals the kernel's result is the reference's. -/
theorem algebraic : Cert.algebraic_Kernel2Ideal_Reference2Ideal := by
  intro m g m' g' _ hagree
  refine ⟨fun c => Cert.Kernel2Ideal.Ffn.target m c,
    (θ_run Cert.Kernel2Ideal.defs _ _).mono (fun _ h c => ⟨(h c).1.trans (Cert.Kernel2Ideal.Ffn.final m c), (h c).2⟩) (Cert.Kernel2Ideal.Value.run_blocks (F := Ideal) m g),
    (θ_run Cert.Reference2Ideal.defs _ _).mono (fun _ h c => ⟨(h c).1.trans ((Cert.Reference2Ideal.Value.res_eq m' c).trans ?_), (h c).2⟩) (Cert.Reference2Ideal.Value.run (F := Ideal) m' g')⟩
  obtain ⟨h0, h1, h2, h3, h4, h5, h6⟩ := hagree c
  show Cert.Reference2Ideal.Value.res _ _ _ _ _ _ _ = Cert.Reference2Ideal.Value.res _ _ _ _ _ _ _
  rw [h0, h1, h2, h3, h4, h5, h6]

end Cert.FfnClaims

end
-- ==== Proof.OutRef.lean ====
module

public import proofs.«01_k».proof.Proof.Rows
public import proofs.«01_k».proof.Proof.Gen.Reference3Ideal.Run

/-! The reference of the out-projection: its result row by row. -/

@[expose] public section

set_option maxRecDepth 16384

noncomputable section

namespace Cert.Reference3Ideal.Value

open Cert.Reference3Ideal Cert.Reference3Ideal.Gen Idealize.ShloMosaic Idealize.ShloMosaic.TcCoe Idealize.SL.Sem
open scoped BigOperators

/-- What the layer norm of the reference is taken of. -/
def pre (a0 : FVec Ideal S16x2048x1024 .f32) (a1 : FVec Ideal S16x2048x256 .f32) (a2 : FVec Ideal S16x2048x256 .f32) (a3 : FVec Ideal S16x2048x256 .f32) (a4 : FVec Ideal S16x2048x256 .f32) (a5 : FVec Ideal S1024x1024 .f32) (a6 : FVec Ideal S1024 .f32) : FVec Ideal S16x2048x1024 .f32 :=
  addf (mulf (broadcastInDim S16x2048x1024 ![] bcast_S_S16x2048x1024 (constant S_ .f32 0x3FB504F3#32)) a0) (addf (Host.dotGeneral dot_S16x2048x1024_S1024x1024_S16x2048x1024_2_0_01_1_n_n none ((concatenate S16x2048x1024 2 [⟨S16x2048x256, (a1 : (⟨S16x2048x256, .f32⟩ : BufTy).Contents (Elt Ideal))⟩, ⟨S16x2048x256, (a2 : (⟨S16x2048x256, .f32⟩ : BufTy).Contents (Elt Ideal))⟩, ⟨S16x2048x256, (a3 : (⟨S16x2048x256, .f32⟩ : BufTy).Contents (Elt Ideal))⟩, ⟨S16x2048x256, (a4 : (⟨S16x2048x256, .f32⟩ : BufTy).Contents (Elt Ideal))⟩] concatenates_S16x2048x256_S16x2048x256_S16x2048x256_S16x2048x256_S16x2048x1024_d2 : FVec Ideal S16x2048x1024 .f32)) a5) (broadcastInDim S16x2048x1024 ![0, 1, 2] bcast_S1x1x1024_S16x2048x1024_0_1_2 (broadcastInDim S1x1x1024 ![2] bcast_S1024_S1x1x1024_2 a6)))

/-- The reference's layer norm along the last axis. -/
def ln (z : FVec Ideal S16x2048x1024 .f32) (g b : FVec Ideal S1024 .f32) : FVec Ideal S16x2048x1024 .f32 :=
  addf (mulf (mulf (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))))) (subf z (broadcastInDim S16x2048x1024 ![0, 1, 2] bcast_S16x2048x1_S16x2048x1024_0_1_2 (Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32)))))) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S1x1x1024_S16x2048x1024_0_1_2 (broadcastInDim S1x1x1024 ![2] bcast_S1024_S1x1x1024_2 b))

/-- The reference's result as a function of its arguments. -/
def res (a0 : FVec Ideal S16x2048x1024 .f32) (a1 : FVec Ideal S16x2048x256 .f32) (a2 : FVec Ideal S16x2048x256 .f32) (a3 : FVec Ideal S16x2048x256 .f32) (a4 : FVec Ideal S16x2048x256 .f32) (a5 : FVec Ideal S1024x1024 .f32) (a6 : FVec Ideal S1024 .f32) (a7 : FVec Ideal S1024 .f32) (a8 : FVec Ideal S1024 .f32) : FVec Ideal S32768x1024 .f32 :=
  shapeCast _ (ln (pre a0 a1 a2 a3 a4 a5 a6) a7 a8) shapeCasts_S16x2048x1024_S32768x1024

/-- The run's composed term is `res` of the argument arrays. -/
theorem res_eq (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res ln pre res_out0 res_main_v32
  rfl

/-- The layer norm at an index is the normalised row there. -/
theorem ln_at (z : FVec Ideal S16x2048x1024 .f32) (g b : FVec Ideal S1024 .f32) (a : Fin 16) (s : Fin 2048) (l : Fin 1024) :
    ln z g b (ix3 a s l) = Rows.norm (fun k => z (ix3 a s k)) (g (ix1 l)) (b (ix1 l)) l := by
  pointwise [ln, Rows.norm, Rows.mean, Rows.width]

/-- The result at row `r` and lane `l`: the rows of the batch lie one after the other. -/
theorem res_at (a0 : FVec Ideal S16x2048x1024 .f32) (a1 : FVec Ideal S16x2048x256 .f32) (a2 : FVec Ideal S16x2048x256 .f32) (a3 : FVec Ideal S16x2048x256 .f32) (a4 : FVec Ideal S16x2048x256 .f32) (a5 : FVec Ideal S1024x1024 .f32) (a6 : FVec Ideal S1024 .f32) (a7 : FVec Ideal S1024 .f32) (a8 : FVec Ideal S1024 .f32) (r : Fin 32768) (l : Fin 1024) :
    res a0 a1 a2 a3 a4 a5 a6 a7 a8 (ix2 r l)
      = Rows.norm (fun k => pre a0 a1 a2 a3 a4 a5 a6 (ix3 ⟨r.val / 2048, by omega⟩ ⟨r.val % 2048, by omega⟩ k)) (a7 (ix1 l)) (a8 (ix1 l)) l := by
  rw [← ln_at]
  pointwise [res]

/-- The residual plus the out-projection at an index, the four heads' groups one after the other. -/
theorem pre_at (a0 : FVec Ideal S16x2048x1024 .f32) (a1 a2 a3 a4 : FVec Ideal S16x2048x256 .f32) (a5 : FVec Ideal S1024x1024 .f32)
    (a6 : FVec Ideal S1024 .f32) (a : Fin 16) (s : Fin 2048) (l : Fin 1024) :
    pre a0 a1 a2 a3 a4 a5 a6 (ix3 a s l)
      = Ideal.ofBits .f32 0x3FB504F3#32 * a0 (ix3 a s l)
        + ((((a6 (ix1 l) + ∑ k : Fin 256, a1 (ix3 a s k) * a5 (ix2 ⟨k.val, by omega⟩ l))
            + ∑ k : Fin 256, a2 (ix3 a s k) * a5 (ix2 ⟨256 + k.val, by omega⟩ l))
            + ∑ k : Fin 256, a3 (ix3 a s k) * a5 (ix2 ⟨512 + k.val, by omega⟩ l))
            + ∑ k : Fin 256, a4 (ix3 a s k) * a5 (ix2 ⟨768 + k.val, by omega⟩ l)) := by
  pointwise [pre]
  refine congrArg₂ (· + ·) rfl ?_
  rw [Rows.sum_four _ (fun k => a1 (ix3 a s k) * a5 (ix2 ⟨k.val, by omega⟩ l)) (fun k => a2 (ix3 a s k) * a5 (ix2 ⟨256 + k.val, by omega⟩ l))
    (fun k => a3 (ix3 a s k) * a5 (ix2 ⟨512 + k.val, by omega⟩ l)) (fun k => a4 (ix3 a s k) * a5 (ix2 ⟨768 + k.val, by omega⟩ l))]
  · ac_rfl
  · intro k
    simp only [k.isLt, dite_true, Fin.eta]
  · intro k
    simp only [show ¬ 256 + k.val < 256 by omega, show 256 + k.val - 256 = k.val by omega, k.isLt, dite_true, dite_false, Fin.eta]
  · intro k
    simp only [show ¬ 512 + k.val < 256 by omega, show ¬ 512 + k.val - 256 < 256 by omega, show 512 + k.val - 256 - 256 = k.val by omega,
      k.isLt, dite_true, dite_false, Fin.eta]
  · intro k
    simp only [show ¬ 768 + k.val < 256 by omega, show ¬ 768 + k.val - 256 < 256 by omega, show ¬ 768 + k.val - 256 - 256 < 256 by omega,
      show 768 + k.val - 256 - 256 - 256 = k.val by omega, dite_false, Fin.eta]

end Cert.Reference3Ideal.Value

end
-- ==== Proof.OutValue.lean ====
module

public import proofs.«01_k».proof.Proof.Gen.Kernel3Ideal.Value
public import proofs.«01_k».proof.Proof.OutRef
public import Idealize.ShloMosaic.Lib.Pipeline.ValueKit

/-! The out-projection: the kernel's result array is the reference's. -/

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Out

open Cert.Kernel3Ideal Cert.Kernel3Ideal.Gen

variable (m : (ℓ : Loc nD τ sig) → Buf (Elt Ideal) ℓ)

/-- Every window's block at every grid point: 512 rows for the streams, the whole array for the weights. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, _)

/-- The body's norm at an index is the normalised row of the residual and the projection. -/
theorem norm_at (u x c : FVec Ideal S512x1024 .f32) (g b : FVec Ideal S1x1024 .f32) (r : Fin 512) (l : Fin 1024) :
    k0_pay1 (F := Ideal) u x c g b (ix2 r l)
      = Rows.norm (fun k => c (ix2 r k) * x (ix2 r k) + u (ix2 r k)) (g (ix2 0 l)) (b (ix2 0 l)) l := by
  pointwise [k0_pay1, Rows.norm, Rows.mean, Rows.width]

/-- The four partial products on top of the offset, at an index. -/
theorem proj_at (b : FVec Ideal S1x1024 .f32) (x1 x2 x3 x4 : FVec Ideal S512x256 .f32) (w1 w2 w3 w4 : FVec Ideal S256x1024 .bf16)
    (r : Fin 512) (l : Fin 1024) :
    k0_pay2 (F := Ideal) b x1 w1 x2 w2 x3 w3 x4 w4 (ix2 r l)
      = (((b (ix2 0 l) + ∑ k : Fin 256, x1 (ix2 r k) * w1 (ix2 k l)) + ∑ k : Fin 256, x2 (ix2 r k) * w2 (ix2 k l))
          + ∑ k : Fin 256, x3 (ix2 r k) * w3 (ix2 k l)) + ∑ k : Fin 256, x4 (ix2 r k) * w4 (ix2 k l) := by
  pointwise [k0_pay2]

/-- The result over the kernel's own argument arrays. -/
abbrev target (c : Dev nD) : FVec Ideal S32768x1024 .f32 :=
  Cert.Reference3Ideal.Value.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a grid point stores at row `p` of its block is the result at row `512 t + p`. -/
theorem point (c : Dev nD) (t : Fin cfg0.N) (p : Fin 512) (l : Fin 1024) (q : Fin 32768) (hq : q.val = t.val * 512 + p.val) :
    k0_pay1 (k0_pay2 (iblk m c 6 t) (iblk m c 1 t) (View.ld (iblk m c 5 t) r0_2) (iblk m c 2 t) (View.ld (iblk m c 5 t) r0_3) (iblk m c 3 t)
      (View.ld (iblk m c 5 t) r0_4) (iblk m c 4 t) (View.ld (iblk m c 5 t) r0_5)) (k0_pay3 (iblk m c 0 t)) (k0_pay4 (F := Ideal)) (iblk m c 7 t)
      (iblk m c 8 t) (ix2 p l) = target m c (ix2 q l) := by
  refine (norm_at _ _ _ _ _ p l).trans ((Rows.norm_congr l (fun k => ?_) ?_ ?_).trans (Cert.Reference3Ideal.Value.res_at _ _ _ _ _ _ _ _ _ q l).symm)
  · refine Eq.trans ?_ (Cert.Reference3Ideal.Value.pre_at _ _ _ _ _ _ _ _ _ k).symm
    refine congrArg₂ (· + ·) ?_ ((proj_at _ _ _ _ _ _ _ _ _ p k).trans ?_)
    · pointwise [k0_pay3, k0_pay4]
      blk_point [iblk, V, idx t]
    · pointwise [k0_pay3, k0_pay4]
      blk_point [iblk, V, idx t]
  · blk_point [iblk, V, idx t]
  · blk_point [iblk, V, idx t]

/-- The result array after the run is the reference's result. -/
theorem final (c : Dev nD) : (dats m 0 c).arrAt 9 (cfgs 0).N = target m c := by
  refine (dats m 0 c).arrAt_eq_of_covers 9 _ (by decide +kernel) fun t hf y => ?_
  blk_simp
  rw [after0_9]
  frame_out
  have ht : t.val < 64 := t.isLt
  have hy : (y 0).val < 512 := (y 0).isLt
  refine Eq.trans ?_ ((point m c t (y 0) (y 1) ⟨t.val * 512 + (y 0).val, by omega⟩ rfl).trans ?_)
  · exact congrArg _ (eq_ix2 y)
  · blk_ext [idx t]

end Cert.Kernel3Ideal.Out

end
-- ==== Proof.Out.lean ====
module

public import proofs.«01_k».proof.Defs
public import proofs.«01_k».proof.Proof.Gen.Kernel3
public import proofs.«01_k».proof.Proof.OutValue

/-! The claims of the out-projection: its frames, and its result against the reference's. -/

@[expose] public section

noncomputable section

open Idealize.ShloMosaic Idealize.ShloMosaic.TcCoe Idealize.SL.Sem

namespace Cert.OutClaims

/-- The two programs' kernel bodies are the same text. -/
theorem body_eq : @Cert.Kernel3.defs₀ Bits _ _ = @Cert.Kernel3Ideal.defs₀ Bits _ _ := by
  unfold Cert.Kernel3.defs₀ Cert.Kernel3Ideal.defs₀
  congr 1
  funext l x
  match l, x with
  | 0, (t, s) => rfl

/-- So are their tables of procedures. -/
theorem defs_eq : @Cert.Kernel3.defs Bits _ _ = @Cert.Kernel3Ideal.defs Bits _ _ :=
  congrArg (Pipeline.defs (Cert.Kernel3Ideal.pcfgs (F := Bits))) body_eq

/-- The frame of the program over float words: the run made once for any values, read there. -/
theorem frame_kernel : Cert.quiescent_Kernel3 := fun m ρ _ =>
  (congrArg (fun d => θ_run d _ _ _) defs_eq).mpr (Cert.Kernel3Ideal.Gen.frame (F := Bits) m ρ)

/-- The frame of the program over the extended reals. -/
theorem frame_ideal : Cert.quiescent_Kernel3Ideal := fun m ρ _ => Cert.Kernel3Ideal.Gen.frame (F := Ideal) m ρ

/-- The frame of the reference. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- Over the extended reals the kernel's result is the reference's. -/
theorem algebraic : Cert.algebraic_Kernel3Ideal_Reference3Ideal := by
  intro m g m' g' _ hagree
  refine ⟨fun c => Cert.Kernel3Ideal.Out.target m c,
    (θ_run Cert.Kernel3Ideal.defs _ _).mono (fun _ h c => ⟨(h c).1.trans (Cert.Kernel3Ideal.Out.final m c), (h c).2⟩) (Cert.Kernel3Ideal.Value.run_blocks (F := Ideal) m g),
    (θ_run Cert.Reference3Ideal.defs _ _).mono (fun _ h c => ⟨(h c).1.trans ((Cert.Reference3Ideal.Value.res_eq m' c).trans ?_), (h c).2⟩) (Cert.Reference3Ideal.Value.run (F := Ideal) m' g')⟩
  obtain ⟨h0, h1, h2, h3, h4, h5, h6, h7, h8⟩ := hagree c
  show Cert.Reference3Ideal.Value.res _ _ _ _ _ _ _ _ _ = Cert.Reference3Ideal.Value.res _ _ _ _ _ _ _ _ _
  rw [h0, h1, h2, h3, h4, h5, h6, h7, h8]

end Cert.OutClaims

end
-- ==== Proof.ProjCols.lean ====
module

public import Idealize.ShloMosaic.Lib.Pointwise

/-! The columns of the input projection, in the order in which the kernel writes them. -/

@[expose] public section

set_option maxRecDepth 16384

noncomputable section

open Idealize.ShloMosaic
open scoped BigOperators

namespace Cert.Cols

/-- The column of the projection that stands at place `j` of the kernel's order, or none where the kernel pads with zeros. -/
def src (j : Nat) : Option (Fin 2904) :=
  if h : j < 128 then some ⟨0 + (j - 0), by omega⟩
  else if h : j < 256 then some ⟨128 + (j - 128), by omega⟩
  else if h : j < 512 then some ⟨256 + (j - 256), by omega⟩
  else if h : j < 768 then some ⟨520 + (j - 512), by omega⟩
  else if h : j < 1024 then some ⟨512 + (j - 768) / 64, by omega⟩
  else if h : j < 1152 then some ⟨512 + (j - 1024) / 32, by omega⟩
  else if h : j < 1408 then some ⟨516 + (j - 1152) / 64, by omega⟩
  else if h : j < 1536 then some ⟨516 + (j - 1408) / 32, by omega⟩
  else if h : j < 1792 then some ⟨776 + (j - 1536), by omega⟩
  else if h : j < 2048 then some ⟨1032 + (j - 1792), by omega⟩
  else if h : j < 2304 then some ⟨1288 + (j - 2048), by omega⟩
  else if h : j < 2560 then some ⟨1544 + (j - 2304), by omega⟩
  else if h : j < 2816 then some ⟨1928 + (j - 2560), by omega⟩
  else if h : j < 2880 then some ⟨1800 + (j - 2816), by omega⟩
  else if h : j < 2944 then some ⟨1864 + (j - 2880), by omega⟩
  else if h : j < 3008 then some ⟨2184 + (j - 2944), by omega⟩
  else if h : j < 3012 then some ⟨2248 + (j - 3008), by omega⟩
  else if j < 3072 then none
  else if h : j < 3328 then some ⟨2252 + (j - 3072), by omega⟩
  else if h : j < 3392 then some ⟨2508 + (j - 3328), by omega⟩
  else if h : j < 3456 then some ⟨2572 + (j - 3392), by omega⟩
  else if h : j < 3520 then some ⟨2636 + (j - 3456), by omega⟩
  else if h : j < 3584 then some ⟨2700 + (j - 3520), by omega⟩
  else if h : j < 3648 then some ⟨2764 + (j - 3584), by omega⟩
  else if h : j < 3712 then some ⟨2828 + (j - 3648), by omega⟩
  else if h : j < 3724 then some ⟨2892 + (j - 3712), by omega⟩
  else if j < 3840 then none
  else if h : j < 3844 then some ⟨512 + (j - 3840), by omega⟩
  else if h : j < 3848 then some ⟨516 + (j - 3844), by omega⟩
  else if j < 3968 then none
  else none

/-- The entry at place `j` of a row of columns `f` laid out in that order, with zeros for padding. -/
def lay (f : Fin 2904 → EReal) (j : Nat) : EReal := (src j).elim 0 f

/-- A product with the columns laid out, plus the offset laid out, is the product plus the offset laid out. -/
theorem lay_dot {n : Nat} (x : Fin n → EReal) (w : Fin n → Fin 2904 → EReal) (b : Fin 2904 → EReal) (j : Nat) :
    (∑ k, x k * lay (w k) j) + lay b j = lay (fun i => (∑ k, x k * w k i) + b i) j := by
  unfold lay
  cases src j with
  | none => simp only [Option.elim, mul_zero, Finset.sum_const_zero, add_zero]
  | some i => rfl

end Cert.Cols

end
-- ==== Proof.ProjRef.lean ====
module

public import proofs.«01_k».proof.Proof.ProjCols
public import proofs.«01_k».proof.Proof.Gen.Reference4Ideal.Run

/-! The reference of the input projection: its five results column by column. -/

@[expose] public section

set_option maxRecDepth 16384

noncomputable section

namespace Cert.Reference4Ideal.Value

open Cert.Reference4Ideal Cert.Reference4Ideal.Gen Idealize.ShloMosaic Idealize.ShloMosaic.TcCoe Idealize.SL.Sem
open scoped BigOperators

/-- The projection of the input with its offset. -/
def proj (a0 : FVec Ideal S16x2048x1024 .f32) (a1 : FVec Ideal S1024x2904 .f32) (a2 : FVec Ideal S2904 .f32) : FVec Ideal S16x2048x2904 .f32 :=
  (addf (Host.dotGeneral dot_S16x2048x1024_S1024x2904_S16x2048x2904_2_0_01_1_n_n none a0 a1) (broadcastInDim S16x2048x2904 ![0, 1, 2] bcast_S1x1x2904_S16x2048x2904_0_1_2 (broadcastInDim S1x1x2904 ![2] bcast_S2904_S1x1x2904_2 a2)))

/-- The projection at an index. -/
theorem proj_at (a0 : FVec Ideal S16x2048x1024 .f32) (a1 : FVec Ideal S1024x2904 .f32) (a2 : FVec Ideal S2904 .f32) (a : Fin 16) (s : Fin 2048) (l : Fin 2904) :
    proj a0 a1 a2 (ix3 a s l) = (∑ k : Fin 1024, a0 (ix3 a s k) * a1 (ix2 k l)) + a2 (ix1 l) := by
  pointwise [proj]

/-- Row `r` of the projection: the rows of the batch lie one after the other. -/
def row (z : FVec Ideal S16x2048x2904 .f32) (r : Fin 32768) (i : Fin 2904) : EReal :=
  z (ix3 ⟨r.val / 2048, by omega⟩ ⟨r.val % 2048, by omega⟩ i)

/-- The first result, of the projection. -/
def group0 (z : FVec Ideal S16x2048x2904 .f32) : FVec Ideal S32768x1536 .f32 :=
  shapeCast _ ((concatenate S16x2048x1536 2 [⟨S16x2048x128, ((extractStridedSlice S16x2048x128 ![0, 0, 0] z slices_S16x2048x2904_S16x2048x128_0_0_0) : FVec Ideal S16x2048x128 .f32)⟩, ⟨S16x2048x128, ((extractStridedSlice S16x2048x128 ![0, 0, 128] z slices_S16x2048x2904_S16x2048x128_0_0_128) : FVec Ideal S16x2048x128 .f32)⟩, ⟨S16x2048x256, ((extractStridedSlice S16x2048x256 ![0, 0, 256] z slices_S16x2048x2904_S16x2048x256_0_0_256) : FVec Ideal S16x2048x256 .f32)⟩, ⟨S16x2048x256, ((extractStridedSlice S16x2048x256 ![0, 0, 520] z slices_S16x2048x2904_S16x2048x256_0_0_520) : FVec Ideal S16x2048x256 .f32)⟩, ⟨S16x2048x256, ((shapeCast _ (broadcastInDim S16x2048x4x64 ![0, 1, 2] bcast_S16x2048x4_S16x2048x4x64_0_1_2 (extractStridedSlice S16x2048x4 ![0, 0, 512] z slices_S16x2048x2904_S16x2048x4_0_0_512)) shapeCasts_S16x2048x4x64_S16x2048x256) : FVec Ideal S16x2048x256 .f32)⟩, ⟨S16x2048x128, ((shapeCast _ (broadcastInDim S16x2048x4x32 ![0, 1, 2] bcast_S16x2048x4_S16x2048x4x32_0_1_2 (extractStridedSlice S16x2048x4 ![0, 0, 512] z slices_S16x2048x2904_S16x2048x4_0_0_512)) shapeCasts_S16x2048x4x32_S16x2048x128) : FVec Ideal S16x2048x128 .f32)⟩, ⟨S16x2048x256, ((shapeCast _ (broadcastInDim S16x2048x4x64 ![0, 1, 2] bcast_S16x2048x4_S16x2048x4x64_0_1_2 (extractStridedSlice S16x2048x4 ![0, 0, 516] z slices_S16x2048x2904_S16x2048x4_0_0_516)) shapeCasts_S16x2048x4x64_S16x2048x256) : FVec Ideal S16x2048x256 .f32)⟩, ⟨S16x2048x128, ((shapeCast _ (broadcastInDim S16x2048x4x32 ![0, 1, 2] bcast_S16x2048x4_S16x2048x4x32_0_1_2 (extractStridedSlice S16x2048x4 ![0, 0, 516] z slices_S16x2048x2904_S16x2048x4_0_0_516)) shapeCasts_S16x2048x4x32_S16x2048x128) : FVec Ideal S16x2048x128 .f32)⟩] concatenates_S16x2048x128_S16x2048x128_S16x2048x256_S16x2048x256_S16x2048x256_S16x2048x128_S16x2048x256_S16x2048x128_S16x2048x1536_d2 : FVec Ideal S16x2048x1536 .f32)) shapeCasts_S16x2048x1536_S32768x1536

/-- The first result holds the columns in the kernel's order from place 0 on. -/
theorem group0_at (z : FVec Ideal S16x2048x2904 .f32) (r : Fin 32768) (j : Fin 1536) :
    group0 z (ix2 r j) = Cols.lay (row z r) (0 + j.val) := by
  have hj := j.isLt
  unfold Cols.lay
  pointwise [group0]
  by_cases h0 : j.val < 128
  · simp (disch := omega) only [Cols.src, dif_pos, dif_neg, if_pos, if_neg, Option.elim]
    all_goals exact congrArg (row z r) (Fin.ext (by dsimp only <;> omega))
  by_cases h1 : j.val < 256
  · simp (disch := omega) only [Cols.src, dif_pos, dif_neg, if_pos, if_neg, Option.elim]
    all_goals exact congrArg (row z r) (Fin.ext (by dsimp only <;> omega))
  by_cases h2 : j.val < 512
  · simp (disch := omega) only [Cols.src, dif_pos, dif_neg, if_pos, if_neg, Option.elim]
    all_goals exact congrArg (row z r) (Fin.ext (by dsimp only <;> omega))
  by_cases h3 : j.val < 768
  · simp (disch := omega) only [Cols.src, dif_pos, dif_neg, if_pos, if_neg, Option.elim]
    all_goals exact congrArg (row z r) (Fin.ext (by dsimp only <;> omega))
  by_cases h4 : j.val < 1024
  · simp (disch := omega) only [Cols.src, dif_pos, dif_neg, if_pos, if_neg, Option.elim]
    all_goals exact congrArg (row z r) (Fin.ext (by dsimp only <;> omega))
  by_cases h5 : j.val < 1152
  · simp (disch := omega) only [Cols.src, dif_pos, dif_neg, if_pos, if_neg, Option.elim]
    all_goals exact congrArg (row z r) (Fin.ext (by dsimp only <;> omega))
  by_cases h6 : j.val < 1408
  · simp (disch := omega) only [Cols.src, dif_pos, dif_neg, if_pos, if_neg, Option.elim]
    all_goals exact congrArg (row z r) (Fin.ext (by dsimp only <;> omega))
  simp (disch := omega) only [Cols.src, dif_pos, dif_neg, if_pos, if_neg, Option.elim]
  all_goals exact congrArg (row z r) (Fin.ext (by dsimp only <;> omega))

/-- The second result, of the projection. -/
def group1 (z : FVec Ideal S16x2048x2904 .f32) : FVec Ideal S32768x768 .f32 :=
  shapeCast _ ((concatenate S16x2048x768 2 [⟨S16x2048x256, ((extractStridedSlice S16x2048x256 ![0, 0, 776] z slices_S16x2048x2904_S16x2048x256_0_0_776) : FVec Ideal S16x2048x256 .f32)⟩, ⟨S16x2048x256, ((extractStridedSlice S16x2048x256 ![0, 0, 1032] z slices_S16x2048x2904_S16x2048x256_0_0_1032) : FVec Ideal S16x2048x256 .f32)⟩, ⟨S16x2048x256, ((extractStridedSlice S16x2048x256 ![0, 0, 1288] z slices_S16x2048x2904_S16x2048x256_0_0_1288) : FVec Ideal S16x2048x256 .f32)⟩] concatenates_S16x2048x256_S16x2048x256_S16x2048x256_S16x2048x768_d2 : FVec Ideal S16x2048x768 .f32)) shapeCasts_S16x2048x768_S32768x768

/-- The second result holds the columns in the kernel's order from place 1536 on. -/
theorem group1_at (z : FVec Ideal S16x2048x2904 .f32) (r : Fin 32768) (j : Fin 768) :
    group1 z (ix2 r j) = Cols.lay (row z r) (1536 + j.val) := by
  have hj := j.isLt
  unfold Cols.lay
  pointwise [group1]
  by_cases h0 : j.val < 256
  · simp (disch := omega) only [Cols.src, dif_pos, dif_neg, if_pos, if_neg, Option.elim]
    all_goals exact congrArg (row z r) (Fin.ext (by dsimp only <;> omega))
  by_cases h1 : j.val < 512
  · simp (disch := omega) only [Cols.src, dif_pos, dif_neg, if_pos, if_neg, Option.elim]
    all_goals exact congrArg (row z r) (Fin.ext (by dsimp only <;> omega))
  simp (disch := omega) only [Cols.src, dif_pos, dif_neg, if_pos, if_neg, Option.elim]
  all_goals exact congrArg (row z r) (Fin.ext (by dsimp only <;> omega))

/-- The third result, of the projection. -/
def group2 (z : FVec Ideal S16x2048x2904 .f32) : FVec Ideal S32768x768 .f32 :=
  shapeCast _ ((concatenate S16x2048x768 2 [⟨S16x2048x256, ((extractStridedSlice S16x2048x256 ![0, 0, 1544] z slices_S16x2048x2904_S16x2048x256_0_0_1544) : FVec Ideal S16x2048x256 .f32)⟩, ⟨S16x2048x256, ((extractStridedSlice S16x2048x256 ![0, 0, 1928] z slices_S16x2048x2904_S16x2048x256_0_0_1928) : FVec Ideal S16x2048x256 .f32)⟩, ⟨S16x2048x64, ((extractStridedSlice S16x2048x64 ![0, 0, 1800] z slices_S16x2048x2904_S16x2048x64_0_0_1800) : FVec Ideal S16x2048x64 .f32)⟩, ⟨S16x2048x64, ((extractStridedSlice S16x2048x64 ![0, 0, 1864] z slices_S16x2048x2904_S16x2048x64_0_0_1864) : FVec Ideal S16x2048x64 .f32)⟩, ⟨S16x2048x64, ((extractStridedSlice S16x2048x64 ![0, 0, 2184] z slices_S16x2048x2904_S16x2048x64_0_0_2184) : FVec Ideal S16x2048x64 .f32)⟩, ⟨S16x2048x4, ((extractStridedSlice S16x2048x4 ![0, 0, 2248] z slices_S16x2048x2904_S16x2048x4_0_0_2248) : FVec Ideal S16x2048x4 .f32)⟩, ⟨S16x2048x60, ((broadcastInDim S16x2048x60 ![] bcast_S_S16x2048x60 (constant S_ .f32 0x00000000#32)) : FVec Ideal S16x2048x60 .f32)⟩] concatenates_S16x2048x256_S16x2048x256_S16x2048x64_S16x2048x64_S16x2048x64_S16x2048x4_S16x2048x60_S16x2048x768_d2 : FVec Ideal S16x2048x768 .f32)) shapeCasts_S16x2048x768_S32768x768

/-- The third result holds the columns in the kernel's order from place 2304 on. -/
theorem group2_at (z : FVec Ideal S16x2048x2904 .f32) (r : Fin 32768) (j : Fin 768) :
    group2 z (ix2 r j) = Cols.lay (row z r) (2304 + j.val) := by
  have hj := j.isLt
  unfold Cols.lay
  pointwise [group2]
  by_cases h0 : j.val < 256
  · simp (disch := omega) only [Cols.src, dif_pos, dif_neg, if_pos, if_neg, Option.elim]
    all_goals exact congrArg (row z r) (Fin.ext (by dsimp only <;> omega))
  by_cases h1 : j.val < 512
  · simp (disch := omega) only [Cols.src, dif_pos, dif_neg, if_pos, if_neg, Option.elim]
    all_goals exact congrArg (row z r) (Fin.ext (by dsimp only <;> omega))
  by_cases h2 : j.val < 576
  · simp (disch := omega) only [Cols.src, dif_pos, dif_neg, if_pos, if_neg, Option.elim]
    all_goals exact congrArg (row z r) (Fin.ext (by dsimp only <;> omega))
  by_cases h3 : j.val < 640
  · simp (disch := omega) only [Cols.src, dif_pos, dif_neg, if_pos, if_neg, Option.elim]
    all_goals exact congrArg (row z r) (Fin.ext (by dsimp only <;> omega))
  by_cases h4 : j.val < 704
  · simp (disch := omega) only [Cols.src, dif_pos, dif_neg, if_pos, if_neg, Option.elim]
    all_goals exact congrArg (row z r) (Fin.ext (by dsimp only <;> omega))
  by_cases h5 : j.val < 708
  · simp (disch := omega) only [Cols.src, dif_pos, dif_neg, if_pos, if_neg, Option.elim]
    all_goals exact congrArg (row z r) (Fin.ext (by dsimp only <;> omega))
  simp (disch := omega) only [Cols.src, dif_pos, dif_neg, if_pos, if_neg, Option.elim]
  all_goals exact congrArg (row z r) (Fin.ext (by dsimp only <;> omega))

/-- The fourth result, of the projection. -/
def group3 (z : FVec Ideal S16x2048x2904 .f32) : FVec Ideal S32768x768 .f32 :=
  shapeCast _ ((concatenate S16x2048x768 2 [⟨S16x2048x256, ((extractStridedSlice S16x2048x256 ![0, 0, 2252] z slices_S16x2048x2904_S16x2048x256_0_0_2252) : FVec Ideal S16x2048x256 .f32)⟩, ⟨S16x2048x64, ((extractStridedSlice S16x2048x64 ![0, 0, 2508] z slices_S16x2048x2904_S16x2048x64_0_0_2508) : FVec Ideal S16x2048x64 .f32)⟩, ⟨S16x2048x64, ((extractStridedSlice S16x2048x64 ![0, 0, 2572] z slices_S16x2048x2904_S16x2048x64_0_0_2572) : FVec Ideal S16x2048x64 .f32)⟩, ⟨S16x2048x64, ((extractStridedSlice S16x2048x64 ![0, 0, 2636] z slices_S16x2048x2904_S16x2048x64_0_0_2636) : FVec Ideal S16x2048x64 .f32)⟩, ⟨S16x2048x64, ((extractStridedSlice S16x2048x64 ![0, 0, 2700] z slices_S16x2048x2904_S16x2048x64_0_0_2700) : FVec Ideal S16x2048x64 .f32)⟩, ⟨S16x2048x64, ((extractStridedSlice S16x2048x64 ![0, 0, 2764] z slices_S16x2048x2904_S16x2048x64_0_0_2764) : FVec Ideal S16x2048x64 .f32)⟩, ⟨S16x2048x64, ((extractStridedSlice S16x2048x64 ![0, 0, 2828] z slices_S16x2048x2904_S16x2048x64_0_0_2828) : FVec Ideal S16x2048x64 .f32)⟩, ⟨S16x2048x12, ((extractStridedSlice S16x2048x12 ![0, 0, 2892] z slices_S16x2048x2904_S16x2048x12_0_0_2892) : FVec Ideal S16x2048x12 .f32)⟩, ⟨S16x2048x116, ((broadcastInDim S16x2048x116 ![] bcast_S_S16x2048x116 (constant S_ .f32 0x00000000#32)) : FVec Ideal S16x2048x116 .f32)⟩] concatenates_S16x2048x256_S16x2048x64_S16x2048x64_S16x2048x64_S16x2048x64_S16x2048x64_S16x2048x64_S16x2048x12_S16x2048x116_S16x2048x768_d2 : FVec Ideal S16x2048x768 .f32)) shapeCasts_S16x2048x768_S32768x768

/-- The fourth result holds the columns in the kernel's order from place 3072 on. -/
theorem group3_at (z : FVec Ideal S16x2048x2904 .f32) (r : Fin 32768) (j : Fin 768) :
    group3 z (ix2 r j) = Cols.lay (row z r) (3072 + j.val) := by
  have hj := j.isLt
  unfold Cols.lay
  pointwise [group3]
  by_cases h0 : j.val < 256
  · simp (disch := omega) only [Cols.src, dif_pos, dif_neg, if_pos, if_neg, Option.elim]
    all_goals exact congrArg (row z r) (Fin.ext (by dsimp only <;> omega))
  by_cases h1 : j.val < 320
  · simp (disch := omega) only [Cols.src, dif_pos, dif_neg, if_pos, if_neg, Option.elim]
    all_goals exact congrArg (row z r) (Fin.ext (by dsimp only <;> omega))
  by_cases h2 : j.val < 384
  · simp (disch := omega) only [Cols.src, dif_pos, dif_neg, if_pos, if_neg, Option.elim]
    all_goals exact congrArg (row z r) (Fin.ext (by dsimp only <;> omega))
  by_cases h3 : j.val < 448
  · simp (disch := omega) only [Cols.src, dif_pos, dif_neg, if_pos, if_neg, Option.elim]
    all_goals exact congrArg (row z r) (Fin.ext (by dsimp only <;> omega))
  by_cases h4 : j.val < 512
  · simp (disch := omega) only [Cols.src, dif_pos, dif_neg, if_pos, if_neg, Option.elim]
    all_goals exact congrArg (row z r) (Fin.ext (by dsimp only <;> omega))
  by_cases h5 : j.val < 576
  · simp (disch := omega) only [Cols.src, dif_pos, dif_neg, if_pos, if_neg, Option.elim]
    all_goals exact congrArg (row z r) (Fin.ext (by dsimp only <;> omega))
  by_cases h6 : j.val < 640
  · simp (disch := omega) only [Cols.src, dif_pos, dif_neg, if_pos, if_neg, Option.elim]
    all_goals exact congrArg (row z r) (Fin.ext (by dsimp only <;> omega))
  by_cases h7 : j.val < 652
  · simp (disch := omega) only [Cols.src, dif_pos, dif_neg, if_pos, if_neg, Option.elim]
    all_goals exact congrArg (row z r) (Fin.ext (by dsimp only <;> omega))
  simp (disch := omega) only [Cols.src, dif_pos, dif_neg, if_pos, if_neg, Option.elim]
  all_goals exact congrArg (row z r) (Fin.ext (by dsimp only <;> omega))

/-- The fifth result, of the projection. -/
def group4 (z : FVec Ideal S16x2048x2904 .f32) : FVec Ideal S32768x128 .f32 :=
  shapeCast _ ((concatenate S16x2048x128 2 [⟨S16x2048x4, ((extractStridedSlice S16x2048x4 ![0, 0, 512] z slices_S16x2048x2904_S16x2048x4_0_0_512) : FVec Ideal S16x2048x4 .f32)⟩, ⟨S16x2048x4, ((extractStridedSlice S16x2048x4 ![0, 0, 516] z slices_S16x2048x2904_S16x2048x4_0_0_516) : FVec Ideal S16x2048x4 .f32)⟩, ⟨S16x2048x120, ((broadcastInDim S16x2048x120 ![] bcast_S_S16x2048x120 (constant S_ .f32 0x00000000#32)) : FVec Ideal S16x2048x120 .f32)⟩] concatenates_S16x2048x4_S16x2048x4_S16x2048x120_S16x2048x128_d2 : FVec Ideal S16x2048x128 .f32)) shapeCasts_S16x2048x128_S32768x128

/-- The fifth result holds the columns in the kernel's order from place 3840 on. -/
theorem group4_at (z : FVec Ideal S16x2048x2904 .f32) (r : Fin 32768) (j : Fin 128) :
    group4 z (ix2 r j) = Cols.lay (row z r) (3840 + j.val) := by
  have hj := j.isLt
  unfold Cols.lay
  pointwise [group4]
  by_cases h0 : j.val < 4
  · simp (disch := omega) only [Cols.src, dif_pos, dif_neg, if_pos, if_neg, Option.elim]
    all_goals exact congrArg (row z r) (Fin.ext (by dsimp only <;> omega))
  by_cases h1 : j.val < 8
  · simp (disch := omega) only [Cols.src, dif_pos, dif_neg, if_pos, if_neg, Option.elim]
    all_goals exact congrArg (row z r) (Fin.ext (by dsimp only <;> omega))
  simp (disch := omega) only [Cols.src, dif_pos, dif_neg, if_pos, if_neg, Option.elim]
  all_goals exact congrArg (row z r) (Fin.ext (by dsimp only <;> omega))

end Cert.Reference4Ideal.Value

end
-- ==== Proof.ProjValue.lean ====
module

public import proofs.«01_k».proof.Proof.ProjRef
public import proofs.«01_k».proof.Proof.Gen.Kernel4Ideal.Value
public import Idealize.ShloMosaic.Lib.Pipeline.ValueKit
public import Idealize.ShloMosaic.Lib.StableHlo.RunRead

/-! The input projection: the kernel's five result arrays are the reference's. -/

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Proj

open Cert.Kernel4Ideal Cert.Kernel4Ideal.Gen

variable (m : (ℓ : Loc nD τ sig) → Buf (Elt Ideal) ℓ)

/-- The first 3008 columns of the weights in the kernel's order, as the host lays them out. -/
def weights1 (main_arg1 : FVec Ideal S1024x2904 .f32) : FVec Ideal S1024x3008 .f32 :=
  (concatenate S1024x3008 1 [⟨S1024x128, ((extractStridedSlice S1024x128 ![0, 0] main_arg1 slices_S1024x2904_S1024x128_0_0) : FVec Ideal S1024x128 .f32)⟩, ⟨S1024x128, ((extractStridedSlice S1024x128 ![0, 128] main_arg1 slices_S1024x2904_S1024x128_0_128) : FVec Ideal S1024x128 .f32)⟩, ⟨S1024x256, ((extractStridedSlice S1024x256 ![0, 256] main_arg1 slices_S1024x2904_S1024x256_0_256) : FVec Ideal S1024x256 .f32)⟩, ⟨S1024x256, ((extractStridedSlice S1024x256 ![0, 520] main_arg1 slices_S1024x2904_S1024x256_0_520) : FVec Ideal S1024x256 .f32)⟩, ⟨S1024x256, ((shapeCast _ (broadcastInDim S1024x4x64 ![0, 1] bcast_S1024x4_S1024x4x64_0_1 (extractStridedSlice S1024x4 ![0, 512] main_arg1 slices_S1024x2904_S1024x4_0_512)) shapeCasts_S1024x4x64_S1024x256) : FVec Ideal S1024x256 .f32)⟩, ⟨S1024x128, ((shapeCast _ (broadcastInDim S1024x4x32 ![0, 1] bcast_S1024x4_S1024x4x32_0_1 (extractStridedSlice S1024x4 ![0, 512] main_arg1 slices_S1024x2904_S1024x4_0_512)) shapeCasts_S1024x4x32_S1024x128) : FVec Ideal S1024x128 .f32)⟩, ⟨S1024x256, ((shapeCast _ (broadcastInDim S1024x4x64 ![0, 1] bcast_S1024x4_S1024x4x64_0_1 (extractStridedSlice S1024x4 ![0, 516] main_arg1 slices_S1024x2904_S1024x4_0_516)) shapeCasts_S1024x4x64_S1024x256) : FVec Ideal S1024x256 .f32)⟩, ⟨S1024x128, ((shapeCast _ (broadcastInDim S1024x4x32 ![0, 1] bcast_S1024x4_S1024x4x32_0_1 (extractStridedSlice S1024x4 ![0, 516] main_arg1 slices_S1024x2904_S1024x4_0_516)) shapeCasts_S1024x4x32_S1024x128) : FVec Ideal S1024x128 .f32)⟩, ⟨S1024x256, ((extractStridedSlice S1024x256 ![0, 776] main_arg1 slices_S1024x2904_S1024x256_0_776) : FVec Ideal S1024x256 .f32)⟩, ⟨S1024x256, ((extractStridedSlice S1024x256 ![0, 1032] main_arg1 slices_S1024x2904_S1024x256_0_1032) : FVec Ideal S1024x256 .f32)⟩, ⟨S1024x256, ((extractStridedSlice S1024x256 ![0, 1288] main_arg1 slices_S1024x2904_S1024x256_0_1288) : FVec Ideal S1024x256 .f32)⟩, ⟨S1024x256, ((extractStridedSlice S1024x256 ![0, 1544] main_arg1 slices_S1024x2904_S1024x256_0_1544) : FVec Ideal S1024x256 .f32)⟩, ⟨S1024x256, ((extractStridedSlice S1024x256 ![0, 1928] main_arg1 slices_S1024x2904_S1024x256_0_1928) : FVec Ideal S1024x256 .f32)⟩, ⟨S1024x64, ((extractStridedSlice S1024x64 ![0, 1800] main_arg1 slices_S1024x2904_S1024x64_0_1800) : FVec Ideal S1024x64 .f32)⟩, ⟨S1024x64, ((extractStridedSlice S1024x64 ![0, 1864] main_arg1 slices_S1024x2904_S1024x64_0_1864) : FVec Ideal S1024x64 .f32)⟩, ⟨S1024x64, ((extractStridedSlice S1024x64 ![0, 2184] main_arg1 slices_S1024x2904_S1024x64_0_2184) : FVec Ideal S1024x64 .f32)⟩] concatenates_S1024x128_S1024x128_S1024x256_S1024x256_S1024x256_S1024x128_S1024x256_S1024x128_S1024x256_S1024x256_S1024x256_S1024x256_S1024x256_S1024x64_S1024x64_S1024x64_S1024x3008_d1)

/-- The other 960 columns. -/
def weights2 (main_arg1 : FVec Ideal S1024x2904 .f32) : FVec Ideal S1024x960 .f32 :=
  (concatenate S1024x960 1 [⟨S1024x4, ((extractStridedSlice S1024x4 ![0, 2248] main_arg1 slices_S1024x2904_S1024x4_0_2248) : FVec Ideal S1024x4 .f32)⟩, ⟨S1024x60, ((broadcastInDim S1024x60 ![] bcast_S_S1024x60 (constant S_ .f32 0x00000000#32)) : FVec Ideal S1024x60 .f32)⟩, ⟨S1024x256, ((extractStridedSlice S1024x256 ![0, 2252] main_arg1 slices_S1024x2904_S1024x256_0_2252) : FVec Ideal S1024x256 .f32)⟩, ⟨S1024x64, ((extractStridedSlice S1024x64 ![0, 2508] main_arg1 slices_S1024x2904_S1024x64_0_2508) : FVec Ideal S1024x64 .f32)⟩, ⟨S1024x64, ((extractStridedSlice S1024x64 ![0, 2572] main_arg1 slices_S1024x2904_S1024x64_0_2572) : FVec Ideal S1024x64 .f32)⟩, ⟨S1024x64, ((extractStridedSlice S1024x64 ![0, 2636] main_arg1 slices_S1024x2904_S1024x64_0_2636) : FVec Ideal S1024x64 .f32)⟩, ⟨S1024x64, ((extractStridedSlice S1024x64 ![0, 2700] main_arg1 slices_S1024x2904_S1024x64_0_2700) : FVec Ideal S1024x64 .f32)⟩, ⟨S1024x64, ((extractStridedSlice S1024x64 ![0, 2764] main_arg1 slices_S1024x2904_S1024x64_0_2764) : FVec Ideal S1024x64 .f32)⟩, ⟨S1024x64, ((extractStridedSlice S1024x64 ![0, 2828] main_arg1 slices_S1024x2904_S1024x64_0_2828) : FVec Ideal S1024x64 .f32)⟩, ⟨S1024x12, ((extractStridedSlice S1024x12 ![0, 2892] main_arg1 slices_S1024x2904_S1024x12_0_2892) : FVec Ideal S1024x12 .f32)⟩, ⟨S1024x116, ((broadcastInDim S1024x116 ![] bcast_S_S1024x116 (constant S_ .f32 0x00000000#32)) : FVec Ideal S1024x116 .f32)⟩, ⟨S1024x4, ((extractStridedSlice S1024x4 ![0, 512] main_arg1 slices_S1024x2904_S1024x4_0_512) : FVec Ideal S1024x4 .f32)⟩, ⟨S1024x4, ((extractStridedSlice S1024x4 ![0, 516] main_arg1 slices_S1024x2904_S1024x4_0_516) : FVec Ideal S1024x4 .f32)⟩, ⟨S1024x120, ((broadcastInDim S1024x120 ![] bcast_S_S1024x120 (constant S_ .f32 0x00000000#32)) : FVec Ideal S1024x120 .f32)⟩] concatenates_S1024x4_S1024x60_S1024x256_S1024x64_S1024x64_S1024x64_S1024x64_S1024x64_S1024x64_S1024x12_S1024x116_S1024x4_S1024x4_S1024x120_S1024x960_d1)

/-- The weights with their columns in the kernel's order, as the host lays them out. -/
def weights (main_arg1 : FVec Ideal S1024x2904 .f32) : FVec Ideal S1024x3968 .bf16 :=
  (truncf .bf16 (concatenate S1024x3968 1 [⟨S1024x3008, (weights1 main_arg1 : FVec Ideal S1024x3008 .f32)⟩, ⟨S1024x960, (weights2 main_arg1 : FVec Ideal S1024x960 .f32)⟩] concatenates_S1024x3008_S1024x960_S1024x3968_d1) bitsLt_bf16_f32)

/-- The first 3008 offsets in the kernel's order, as the host lays them out. -/
def offsets1 (main_arg2 : FVec Ideal S2904 .f32) : FVec Ideal S3008 .f32 :=
  (concatenate S3008 0 [⟨S128, ((extractStridedSlice S128 ![0] main_arg2 slices_S2904_S128_0) : FVec Ideal S128 .f32)⟩, ⟨S128, ((extractStridedSlice S128 ![128] main_arg2 slices_S2904_S128_128) : FVec Ideal S128 .f32)⟩, ⟨S256, ((extractStridedSlice S256 ![256] main_arg2 slices_S2904_S256_256) : FVec Ideal S256 .f32)⟩, ⟨S256, ((extractStridedSlice S256 ![520] main_arg2 slices_S2904_S256_520) : FVec Ideal S256 .f32)⟩, ⟨S256, ((shapeCast _ (broadcastInDim S4x64 ![0] bcast_S4_S4x64_0 (extractStridedSlice S4 ![512] main_arg2 slices_S2904_S4_512)) shapeCasts_S4x64_S256) : FVec Ideal S256 .f32)⟩, ⟨S128, ((shapeCast _ (broadcastInDim S4x32 ![0] bcast_S4_S4x32_0 (extractStridedSlice S4 ![512] main_arg2 slices_S2904_S4_512)) shapeCasts_S4x32_S128) : FVec Ideal S128 .f32)⟩, ⟨S256, ((shapeCast _ (broadcastInDim S4x64 ![0] bcast_S4_S4x64_0 (extractStridedSlice S4 ![516] main_arg2 slices_S2904_S4_516)) shapeCasts_S4x64_S256) : FVec Ideal S256 .f32)⟩, ⟨S128, ((shapeCast _ (broadcastInDim S4x32 ![0] bcast_S4_S4x32_0 (extractStridedSlice S4 ![516] main_arg2 slices_S2904_S4_516)) shapeCasts_S4x32_S128) : FVec Ideal S128 .f32)⟩, ⟨S256, ((extractStridedSlice S256 ![776] main_arg2 slices_S2904_S256_776) : FVec Ideal S256 .f32)⟩, ⟨S256, ((extractStridedSlice S256 ![1032] main_arg2 slices_S2904_S256_1032) : FVec Ideal S256 .f32)⟩, ⟨S256, ((extractStridedSlice S256 ![1288] main_arg2 slices_S2904_S256_1288) : FVec Ideal S256 .f32)⟩, ⟨S256, ((extractStridedSlice S256 ![1544] main_arg2 slices_S2904_S256_1544) : FVec Ideal S256 .f32)⟩, ⟨S256, ((extractStridedSlice S256 ![1928] main_arg2 slices_S2904_S256_1928) : FVec Ideal S256 .f32)⟩, ⟨S64, ((extractStridedSlice S64 ![1800] main_arg2 slices_S2904_S64_1800) : FVec Ideal S64 .f32)⟩, ⟨S64, ((extractStridedSlice S64 ![1864] main_arg2 slices_S2904_S64_1864) : FVec Ideal S64 .f32)⟩, ⟨S64, ((extractStridedSlice S64 ![2184] main_arg2 slices_S2904_S64_2184) : FVec Ideal S64 .f32)⟩] concatenates_S128_S128_S256_S256_S256_S128_S256_S128_S256_S256_S256_S256_S256_S64_S64_S64_S3008_d0)

/-- The other 960 offsets. -/
def offsets2 (main_arg2 : FVec Ideal S2904 .f32) : FVec Ideal S960 .f32 :=
  (concatenate S960 0 [⟨S4, ((extractStridedSlice S4 ![2248] main_arg2 slices_S2904_S4_2248) : FVec Ideal S4 .f32)⟩, ⟨S60, ((broadcastInDim S60 ![] bcast_S_S60 (constant S_ .f32 0x00000000#32)) : FVec Ideal S60 .f32)⟩, ⟨S256, ((extractStridedSlice S256 ![2252] main_arg2 slices_S2904_S256_2252) : FVec Ideal S256 .f32)⟩, ⟨S64, ((extractStridedSlice S64 ![2508] main_arg2 slices_S2904_S64_2508) : FVec Ideal S64 .f32)⟩, ⟨S64, ((extractStridedSlice S64 ![2572] main_arg2 slices_S2904_S64_2572) : FVec Ideal S64 .f32)⟩, ⟨S64, ((extractStridedSlice S64 ![2636] main_arg2 slices_S2904_S64_2636) : FVec Ideal S64 .f32)⟩, ⟨S64, ((extractStridedSlice S64 ![2700] main_arg2 slices_S2904_S64_2700) : FVec Ideal S64 .f32)⟩, ⟨S64, ((extractStridedSlice S64 ![2764] main_arg2 slices_S2904_S64_2764) : FVec Ideal S64 .f32)⟩, ⟨S64, ((extractStridedSlice S64 ![2828] main_arg2 slices_S2904_S64_2828) : FVec Ideal S64 .f32)⟩, ⟨S12, ((extractStridedSlice S12 ![2892] main_arg2 slices_S2904_S12_2892) : FVec Ideal S12 .f32)⟩, ⟨S116, ((broadcastInDim S116 ![] bcast_S_S116 (constant S_ .f32 0x00000000#32)) : FVec Ideal S116 .f32)⟩, ⟨S4, ((extractStridedSlice S4 ![512] main_arg2 slices_S2904_S4_512) : FVec Ideal S4 .f32)⟩, ⟨S4, ((extractStridedSlice S4 ![516] main_arg2 slices_S2904_S4_516) : FVec Ideal S4 .f32)⟩, ⟨S120, ((broadcastInDim S120 ![] bcast_S_S120 (constant S_ .f32 0x00000000#32)) : FVec Ideal S120 .f32)⟩] concatenates_S4_S60_S256_S64_S64_S64_S64_S64_S64_S12_S116_S4_S4_S120_S960_d0)

/-- The offsets in the kernel's order, as the host lays them out. -/
def offsets (main_arg2 : FVec Ideal S2904 .f32) : FVec Ideal S1x3968 .f32 :=
  (broadcastInDim S1x3968 ![1] bcast_S3968_S1x3968_1 (concatenate S3968 0 [⟨S3008, (offsets1 main_arg2 : FVec Ideal S3008 .f32)⟩, ⟨S960, (offsets2 main_arg2 : FVec Ideal S960 .f32)⟩] concatenates_S3008_S960_S3968_d0))

set_option maxHeartbeats 4000000 in
/-- Sixteen pieces one after the other, each a part of a row laid out, are that row laid out. -/
theorem cat_weights (f : Fin 2904 → EReal) (k : Fin 1024) (j : Fin 3008)
    (x0 : FVec Ideal S1024x128 .f32)
    (x1 : FVec Ideal S1024x128 .f32)
    (x2 : FVec Ideal S1024x256 .f32)
    (x3 : FVec Ideal S1024x256 .f32)
    (x4 : FVec Ideal S1024x256 .f32)
    (x5 : FVec Ideal S1024x128 .f32)
    (x6 : FVec Ideal S1024x256 .f32)
    (x7 : FVec Ideal S1024x128 .f32)
    (x8 : FVec Ideal S1024x256 .f32)
    (x9 : FVec Ideal S1024x256 .f32)
    (x10 : FVec Ideal S1024x256 .f32)
    (x11 : FVec Ideal S1024x256 .f32)
    (x12 : FVec Ideal S1024x256 .f32)
    (x13 : FVec Ideal S1024x64 .f32)
    (x14 : FVec Ideal S1024x64 .f32)
    (x15 : FVec Ideal S1024x64 .f32)
    (h0 : ∀ c : Fin 128, x0 (ix2 k c) = Cols.lay f (0 + c.val))
    (h1 : ∀ c : Fin 128, x1 (ix2 k c) = Cols.lay f (128 + c.val))
    (h2 : ∀ c : Fin 256, x2 (ix2 k c) = Cols.lay f (256 + c.val))
    (h3 : ∀ c : Fin 256, x3 (ix2 k c) = Cols.lay f (512 + c.val))
    (h4 : ∀ c : Fin 256, x4 (ix2 k c) = Cols.lay f (768 + c.val))
    (h5 : ∀ c : Fin 128, x5 (ix2 k c) = Cols.lay f (1024 + c.val))
    (h6 : ∀ c : Fin 256, x6 (ix2 k c) = Cols.lay f (1152 + c.val))
    (h7 : ∀ c : Fin 128, x7 (ix2 k c) = Cols.lay f (1408 + c.val))
    (h8 : ∀ c : Fin 256, x8 (ix2 k c) = Cols.lay f (1536 + c.val))
    (h9 : ∀ c : Fin 256, x9 (ix2 k c) = Cols.lay f (1792 + c.val))
    (h10 : ∀ c : Fin 256, x10 (ix2 k c) = Cols.lay f (2048 + c.val))
    (h11 : ∀ c : Fin 256, x11 (ix2 k c) = Cols.lay f (2304 + c.val))
    (h12 : ∀ c : Fin 256, x12 (ix2 k c) = Cols.lay f (2560 + c.val))
    (h13 : ∀ c : Fin 64, x13 (ix2 k c) = Cols.lay f (2816 + c.val))
    (h14 : ∀ c : Fin 64, x14 (ix2 k c) = Cols.lay f (2880 + c.val))
    (h15 : ∀ c : Fin 64, x15 (ix2 k c) = Cols.lay f (2944 + c.val)) :
    concatenate S1024x3008 1 [⟨S1024x128, x0⟩, ⟨S1024x128, x1⟩, ⟨S1024x256, x2⟩, ⟨S1024x256, x3⟩, ⟨S1024x256, x4⟩, ⟨S1024x128, x5⟩, ⟨S1024x256, x6⟩, ⟨S1024x128, x7⟩, ⟨S1024x256, x8⟩, ⟨S1024x256, x9⟩, ⟨S1024x256, x10⟩, ⟨S1024x256, x11⟩, ⟨S1024x256, x12⟩, ⟨S1024x64, x13⟩, ⟨S1024x64, x14⟩, ⟨S1024x64, x15⟩]
      concatenates_S1024x128_S1024x128_S1024x256_S1024x256_S1024x256_S1024x128_S1024x256_S1024x128_S1024x256_S1024x256_S1024x256_S1024x256_S1024x256_S1024x64_S1024x64_S1024x64_S1024x3008_d1 (ix2 k j) = Cols.lay f j.val := by
  have hj := j.isLt
  set_option backward.isDefEq.respectTransparency false in
  simp (maxSteps := 10000000) only [pointwise, Fin.isValue, Matrix.cons_val_zero, Matrix.cons_val_one,
    Matrix.cons_val_fin_one, Matrix.cons_val, Matrix.head_cons, ↓reduceDIte, ↓reduceIte, Fin.zero_eta, Fin.mk_one,
    Fin.mk_zero, Fin.val_zero, Fin.val_one, Fin.val_two, Fin.coe_ofNat_eq_mod, Fin.val_mk, Fin.cast_mk, Fin.val_cast,
    Fin.cast_eq_self, OfNat.ofNat_ne_one, OfNat.ofNat_ne_zero, Nat.reduceMod, Nat.reduceSub, Nat.reduceAdd, Nat.reduceMul,
    Nat.reduceDiv, Nat.reduceEqDiff, Nat.reduceLT, Nat.reduceGT, Nat.reduceLeDiff, Nat.add_zero, Nat.zero_add, Nat.mul_one,
    Nat.one_mul, Nat.mul_zero, Nat.zero_mul, Nat.zero_mod, Nat.sub_zero, Fin.reduceEq, Fin.reduceNe, BitVec.reduceToNat,
    Nat.div_one, Nat.mod_one, Nat.zero_le, true_and, and_true, Nat.lt_irrefl, List.foldl_cons, List.foldl_nil, zero_add,
    add_zero, mul_one, one_mul, sub_zero]
  by_cases g0 : j.val < 128
  · simp (disch := omega) only [dif_pos, dif_neg]
    exact (h0 _).trans (congrArg _ (by dsimp only <;> omega))
  by_cases g1 : j.val < 256
  · simp (disch := omega) only [dif_pos, dif_neg]
    exact (h1 _).trans (congrArg _ (by dsimp only <;> omega))
  by_cases g2 : j.val < 512
  · simp (disch := omega) only [dif_pos, dif_neg]
    exact (h2 _).trans (congrArg _ (by dsimp only <;> omega))
  by_cases g3 : j.val < 768
  · simp (disch := omega) only [dif_pos, dif_neg]
    exact (h3 _).trans (congrArg _ (by dsimp only <;> omega))
  by_cases g4 : j.val < 1024
  · simp (disch := omega) only [dif_pos, dif_neg]
    exact (h4 _).trans (congrArg _ (by dsimp only <;> omega))
  by_cases g5 : j.val < 1152
  · simp (disch := omega) only [dif_pos, dif_neg]
    exact (h5 _).trans (congrArg _ (by dsimp only <;> omega))
  by_cases g6 : j.val < 1408
  · simp (disch := omega) only [dif_pos, dif_neg]
    exact (h6 _).trans (congrArg _ (by dsimp only <;> omega))
  by_cases g7 : j.val < 1536
  · simp (disch := omega) only [dif_pos, dif_neg]
    exact (h7 _).trans (congrArg _ (by dsimp only <;> omega))
  by_cases g8 : j.val < 1792
  · simp (disch := omega) only [dif_pos, dif_neg]
    exact (h8 _).trans (congrArg _ (by dsimp only <;> omega))
  by_cases g9 : j.val < 2048
  · simp (disch := omega) only [dif_pos, dif_neg]
    exact (h9 _).trans (congrArg _ (by dsimp only <;> omega))
  by_cases g10 : j.val < 2304
  · simp (disch := omega) only [dif_pos, dif_neg]
    exact (h10 _).trans (congrArg _ (by dsimp only <;> omega))
  by_cases g11 : j.val < 2560
  · simp (disch := omega) only [dif_pos, dif_neg]
    exact (h11 _).trans (congrArg _ (by dsimp only <;> omega))
  by_cases g12 : j.val < 2816
  · simp (disch := omega) only [dif_pos, dif_neg]
    exact (h12 _).trans (congrArg _ (by dsimp only <;> omega))
  by_cases g13 : j.val < 2880
  · simp (disch := omega) only [dif_pos, dif_neg]
    exact (h13 _).trans (congrArg _ (by dsimp only <;> omega))
  by_cases g14 : j.val < 2944
  · simp (disch := omega) only [dif_pos, dif_neg]
    exact (h14 _).trans (congrArg _ (by dsimp only <;> omega))
  simp (disch := omega) only [dif_pos, dif_neg]
  exact (h15 _).trans (congrArg _ (by dsimp only <;> omega))

set_option maxHeartbeats 4000000 in
/-- The first columns of the weights, at an index. -/
theorem weights1_at (w : FVec Ideal S1024x2904 .f32) (k : Fin 1024) (j : Fin 3008) :
    weights1 w (ix2 k j) = Cols.lay (fun i => w (ix2 k i)) j.val := by
  unfold weights1
  refine cat_weights (fun i => w (ix2 k i)) k j _ _ _ _ _ _ _ _ _ _ _ _ _ _ _ _ ?_ ?_ ?_ ?_ ?_ ?_ ?_ ?_ ?_ ?_ ?_ ?_ ?_ ?_ ?_ ?_
  all_goals
    intro c
    have hc := c.isLt
    unfold Cols.lay
    pointwise
    simp (disch := omega) only [Cols.src, dif_pos, dif_neg, if_pos, if_neg, Option.elim]
    exact congrArg (fun i => w (ix2 k i)) (Fin.ext (by dsimp only <;> omega))
set_option maxHeartbeats 4000000 in
/-- The other columns of the weights, at an index. -/
theorem weights2_at (w : FVec Ideal S1024x2904 .f32) (k : Fin 1024) (j : Fin 960) :
    weights2 w (ix2 k j) = Cols.lay (fun i => w (ix2 k i)) (3008 + j.val) := by
  have hj := j.isLt
  unfold Cols.lay
  pointwise [weights2]
  by_cases h0 : j.val < 4
  · simp (disch := omega) only [Cols.src, dif_pos, dif_neg, if_pos, if_neg, Option.elim]
    all_goals exact congrArg (fun i => w (ix2 k i)) (Fin.ext (by dsimp only <;> omega))
  by_cases h1 : j.val < 64
  · simp (disch := omega) only [Cols.src, dif_pos, dif_neg, if_pos, if_neg, Option.elim]
    all_goals exact congrArg (fun i => w (ix2 k i)) (Fin.ext (by dsimp only <;> omega))
  by_cases h2 : j.val < 320
  · simp (disch := omega) only [Cols.src, dif_pos, dif_neg, if_pos, if_neg, Option.elim]
    all_goals exact congrArg (fun i => w (ix2 k i)) (Fin.ext (by dsimp only <;> omega))
  by_cases h3 : j.val < 384
  · simp (disch := omega) only [Cols.src, dif_pos, dif_neg, if_pos, if_neg, Option.elim]
    all_goals exact congrArg (fun i => w (ix2 k i)) (Fin.ext (by dsimp only <;> omega))
  by_cases h4 : j.val < 448
  · simp (disch := omega) only [Cols.src, dif_pos, dif_neg, if_pos, if_neg, Option.elim]
    all_goals exact congrArg (fun i => w (ix2 k i)) (Fin.ext (by dsimp only <;> omega))
  by_cases h5 : j.val < 512
  · simp (disch := omega) only [Cols.src, dif_pos, dif_neg, if_pos, if_neg, Option.elim]
    all_goals exact congrArg (fun i => w (ix2 k i)) (Fin.ext (by dsimp only <;> omega))
  by_cases h6 : j.val < 576
  · simp (disch := omega) only [Cols.src, dif_pos, dif_neg, if_pos, if_neg, Option.elim]
    all_goals exact congrArg (fun i => w (ix2 k i)) (Fin.ext (by dsimp only <;> omega))
  by_cases h7 : j.val < 640
  · simp (disch := omega) only [Cols.src, dif_pos, dif_neg, if_pos, if_neg, Option.elim]
    all_goals exact congrArg (fun i => w (ix2 k i)) (Fin.ext (by dsimp only <;> omega))
  by_cases h8 : j.val < 704
  · simp (disch := omega) only [Cols.src, dif_pos, dif_neg, if_pos, if_neg, Option.elim]
    all_goals exact congrArg (fun i => w (ix2 k i)) (Fin.ext (by dsimp only <;> omega))
  by_cases h9 : j.val < 716
  · simp (disch := omega) only [Cols.src, dif_pos, dif_neg, if_pos, if_neg, Option.elim]
    all_goals exact congrArg (fun i => w (ix2 k i)) (Fin.ext (by dsimp only <;> omega))
  by_cases h10 : j.val < 832
  · simp (disch := omega) only [Cols.src, dif_pos, dif_neg, if_pos, if_neg, Option.elim]
    all_goals exact congrArg (fun i => w (ix2 k i)) (Fin.ext (by dsimp only <;> omega))
  by_cases h11 : j.val < 836
  · simp (disch := omega) only [Cols.src, dif_pos, dif_neg, if_pos, if_neg, Option.elim]
    all_goals exact congrArg (fun i => w (ix2 k i)) (Fin.ext (by dsimp only <;> omega))
  by_cases h12 : j.val < 840
  · simp (disch := omega) only [Cols.src, dif_pos, dif_neg, if_pos, if_neg, Option.elim]
    all_goals exact congrArg (fun i => w (ix2 k i)) (Fin.ext (by dsimp only <;> omega))
  simp (disch := omega) only [Cols.src, dif_pos, dif_neg, if_pos, if_neg, Option.elim]
  all_goals exact congrArg (fun i => w (ix2 k i)) (Fin.ext (by dsimp only <;> omega))

/-- The weights laid out, at an index. -/
theorem weights_at (w : FVec Ideal S1024x2904 .f32) (k : Fin 1024) (j : Fin 3968) :
    weights w (ix2 k j) = Cols.lay (fun i => w (ix2 k i)) j.val := by
  pointwise [weights]
  split
  · exact weights1_at w k _
  · refine (weights2_at w k _).trans (congrArg _ ?_)
    dsimp only
    omega

set_option maxHeartbeats 4000000 in
/-- Sixteen pieces one after the other, each a part of a row laid out, are that row laid out. -/
theorem cat_offsets (f : Fin 2904 → EReal) (j : Fin 3008)
    (x0 : FVec Ideal S128 .f32)
    (x1 : FVec Ideal S128 .f32)
    (x2 : FVec Ideal S256 .f32)
    (x3 : FVec Ideal S256 .f32)
    (x4 : FVec Ideal S256 .f32)
    (x5 : FVec Ideal S128 .f32)
    (x6 : FVec Ideal S256 .f32)
    (x7 : FVec Ideal S128 .f32)
    (x8 : FVec Ideal S256 .f32)
    (x9 : FVec Ideal S256 .f32)
    (x10 : FVec Ideal S256 .f32)
    (x11 : FVec Ideal S256 .f32)
    (x12 : FVec Ideal S256 .f32)
    (x13 : FVec Ideal S64 .f32)
    (x14 : FVec Ideal S64 .f32)
    (x15 : FVec Ideal S64 .f32)
    (h0 : ∀ c : Fin 128, x0 (ix1 c) = Cols.lay f (0 + c.val))
    (h1 : ∀ c : Fin 128, x1 (ix1 c) = Cols.lay f (128 + c.val))
    (h2 : ∀ c : Fin 256, x2 (ix1 c) = Cols.lay f (256 + c.val))
    (h3 : ∀ c : Fin 256, x3 (ix1 c) = Cols.lay f (512 + c.val))
    (h4 : ∀ c : Fin 256, x4 (ix1 c) = Cols.lay f (768 + c.val))
    (h5 : ∀ c : Fin 128, x5 (ix1 c) = Cols.lay f (1024 + c.val))
    (h6 : ∀ c : Fin 256, x6 (ix1 c) = Cols.lay f (1152 + c.val))
    (h7 : ∀ c : Fin 128, x7 (ix1 c) = Cols.lay f (1408 + c.val))
    (h8 : ∀ c : Fin 256, x8 (ix1 c) = Cols.lay f (1536 + c.val))
    (h9 : ∀ c : Fin 256, x9 (ix1 c) = Cols.lay f (1792 + c.val))
    (h10 : ∀ c : Fin 256, x10 (ix1 c) = Cols.lay f (2048 + c.val))
    (h11 : ∀ c : Fin 256, x11 (ix1 c) = Cols.lay f (2304 + c.val))
    (h12 : ∀ c : Fin 256, x12 (ix1 c) = Cols.lay f (2560 + c.val))
    (h13 : ∀ c : Fin 64, x13 (ix1 c) = Cols.lay f (2816 + c.val))
    (h14 : ∀ c : Fin 64, x14 (ix1 c) = Cols.lay f (2880 + c.val))
    (h15 : ∀ c : Fin 64, x15 (ix1 c) = Cols.lay f (2944 + c.val)) :
    concatenate S3008 0 [⟨S128, x0⟩, ⟨S128, x1⟩, ⟨S256, x2⟩, ⟨S256, x3⟩, ⟨S256, x4⟩, ⟨S128, x5⟩, ⟨S256, x6⟩, ⟨S128, x7⟩, ⟨S256, x8⟩, ⟨S256, x9⟩, ⟨S256, x10⟩, ⟨S256, x11⟩, ⟨S256, x12⟩, ⟨S64, x13⟩, ⟨S64, x14⟩, ⟨S64, x15⟩]
      concatenates_S128_S128_S256_S256_S256_S128_S256_S128_S256_S256_S256_S256_S256_S64_S64_S64_S3008_d0 (ix1 j) = Cols.lay f j.val := by
  have hj := j.isLt
  set_option backward.isDefEq.respectTransparency false in
  simp (maxSteps := 10000000) only [pointwise, Fin.isValue, Matrix.cons_val_zero, Matrix.cons_val_one,
    Matrix.cons_val_fin_one, Matrix.cons_val, Matrix.head_cons, ↓reduceDIte, ↓reduceIte, Fin.zero_eta, Fin.mk_one,
    Fin.mk_zero, Fin.val_zero, Fin.val_one, Fin.val_two, Fin.coe_ofNat_eq_mod, Fin.val_mk, Fin.cast_mk, Fin.val_cast,
    Fin.cast_eq_self, OfNat.ofNat_ne_one, OfNat.ofNat_ne_zero, Nat.reduceMod, Nat.reduceSub, Nat.reduceAdd, Nat.reduceMul,
    Nat.reduceDiv, Nat.reduceEqDiff, Nat.reduceLT, Nat.reduceGT, Nat.reduceLeDiff, Nat.add_zero, Nat.zero_add, Nat.mul_one,
    Nat.one_mul, Nat.mul_zero, Nat.zero_mul, Nat.zero_mod, Nat.sub_zero, Fin.reduceEq, Fin.reduceNe, BitVec.reduceToNat,
    Nat.div_one, Nat.mod_one, Nat.zero_le, true_and, and_true, Nat.lt_irrefl, List.foldl_cons, List.foldl_nil, zero_add,
    add_zero, mul_one, one_mul, sub_zero]
  by_cases g0 : j.val < 128
  · simp (disch := omega) only [dif_pos, dif_neg]
    exact (h0 _).trans (congrArg _ (by dsimp only <;> omega))
  by_cases g1 : j.val < 256
  · simp (disch := omega) only [dif_pos, dif_neg]
    exact (h1 _).trans (congrArg _ (by dsimp only <;> omega))
  by_cases g2 : j.val < 512
  · simp (disch := omega) only [dif_pos, dif_neg]
    exact (h2 _).trans (congrArg _ (by dsimp only <;> omega))
  by_cases g3 : j.val < 768
  · simp (disch := omega) only [dif_pos, dif_neg]
    exact (h3 _).trans (congrArg _ (by dsimp only <;> omega))
  by_cases g4 : j.val < 1024
  · simp (disch := omega) only [dif_pos, dif_neg]
    exact (h4 _).trans (congrArg _ (by dsimp only <;> omega))
  by_cases g5 : j.val < 1152
  · simp (disch := omega) only [dif_pos, dif_neg]
    exact (h5 _).trans (congrArg _ (by dsimp only <;> omega))
  by_cases g6 : j.val < 1408
  · simp (disch := omega) only [dif_pos, dif_neg]
    exact (h6 _).trans (congrArg _ (by dsimp only <;> omega))
  by_cases g7 : j.val < 1536
  · simp (disch := omega) only [dif_pos, dif_neg]
    exact (h7 _).trans (congrArg _ (by dsimp only <;> omega))
  by_cases g8 : j.val < 1792
  · simp (disch := omega) only [dif_pos, dif_neg]
    exact (h8 _).trans (congrArg _ (by dsimp only <;> omega))
  by_cases g9 : j.val < 2048
  · simp (disch := omega) only [dif_pos, dif_neg]
    exact (h9 _).trans (congrArg _ (by dsimp only <;> omega))
  by_cases g10 : j.val < 2304
  · simp (disch := omega) only [dif_pos, dif_neg]
    exact (h10 _).trans (congrArg _ (by dsimp only <;> omega))
  by_cases g11 : j.val < 2560
  · simp (disch := omega) only [dif_pos, dif_neg]
    exact (h11 _).trans (congrArg _ (by dsimp only <;> omega))
  by_cases g12 : j.val < 2816
  · simp (disch := omega) only [dif_pos, dif_neg]
    exact (h12 _).trans (congrArg _ (by dsimp only <;> omega))
  by_cases g13 : j.val < 2880
  · simp (disch := omega) only [dif_pos, dif_neg]
    exact (h13 _).trans (congrArg _ (by dsimp only <;> omega))
  by_cases g14 : j.val < 2944
  · simp (disch := omega) only [dif_pos, dif_neg]
    exact (h14 _).trans (congrArg _ (by dsimp only <;> omega))
  simp (disch := omega) only [dif_pos, dif_neg]
  exact (h15 _).trans (congrArg _ (by dsimp only <;> omega))

set_option maxHeartbeats 4000000 in
/-- The first offsets, at an index. -/
theorem offsets1_at (b : FVec Ideal S2904 .f32) (j : Fin 3008) :
    offsets1 b (ix1 j) = Cols.lay (fun i => b (ix1 i)) j.val := by
  unfold offsets1
  refine cat_offsets (fun i => b (ix1 i)) j _ _ _ _ _ _ _ _ _ _ _ _ _ _ _ _ ?_ ?_ ?_ ?_ ?_ ?_ ?_ ?_ ?_ ?_ ?_ ?_ ?_ ?_ ?_ ?_
  all_goals
    intro c
    have hc := c.isLt
    unfold Cols.lay
    pointwise
    simp (disch := omega) only [Cols.src, dif_pos, dif_neg, if_pos, if_neg, Option.elim]
    exact congrArg (fun i => b (ix1 i)) (Fin.ext (by dsimp only <;> omega))
set_option maxHeartbeats 4000000 in
/-- The other offsets, at an index. -/
theorem offsets2_at (b : FVec Ideal S2904 .f32) (j : Fin 960) :
    offsets2 b (ix1 j) = Cols.lay (fun i => b (ix1 i)) (3008 + j.val) := by
  have hj := j.isLt
  unfold Cols.lay
  pointwise [offsets2]
  by_cases h0 : j.val < 4
  · simp (disch := omega) only [Cols.src, dif_pos, dif_neg, if_pos, if_neg, Option.elim]
    all_goals exact congrArg (fun i => b (ix1 i)) (Fin.ext (by dsimp only <;> omega))
  by_cases h1 : j.val < 64
  · simp (disch := omega) only [Cols.src, dif_pos, dif_neg, if_pos, if_neg, Option.elim]
    all_goals exact congrArg (fun i => b (ix1 i)) (Fin.ext (by dsimp only <;> omega))
  by_cases h2 : j.val < 320
  · simp (disch := omega) only [Cols.src, dif_pos, dif_neg, if_pos, if_neg, Option.elim]
    all_goals exact congrArg (fun i => b (ix1 i)) (Fin.ext (by dsimp only <;> omega))
  by_cases h3 : j.val < 384
  · simp (disch := omega) only [Cols.src, dif_pos, dif_neg, if_pos, if_neg, Option.elim]
    all_goals exact congrArg (fun i => b (ix1 i)) (Fin.ext (by dsimp only <;> omega))
  by_cases h4 : j.val < 448
  · simp (disch := omega) only [Cols.src, dif_pos, dif_neg, if_pos, if_neg, Option.elim]
    all_goals exact congrArg (fun i => b (ix1 i)) (Fin.ext (by dsimp only <;> omega))
  by_cases h5 : j.val < 512
  · simp (disch := omega) only [Cols.src, dif_pos, dif_neg, if_pos, if_neg, Option.elim]
    all_goals exact congrArg (fun i => b (ix1 i)) (Fin.ext (by dsimp only <;> omega))
  by_cases h6 : j.val < 576
  · simp (disch := omega) only [Cols.src, dif_pos, dif_neg, if_pos, if_neg, Option.elim]
    all_goals exact congrArg (fun i => b (ix1 i)) (Fin.ext (by dsimp only <;> omega))
  by_cases h7 : j.val < 640
  · simp (disch := omega) only [Cols.src, dif_pos, dif_neg, if_pos, if_neg, Option.elim]
    all_goals exact congrArg (fun i => b (ix1 i)) (Fin.ext (by dsimp only <;> omega))
  by_cases h8 : j.val < 704
  · simp (disch := omega) only [Cols.src, dif_pos, dif_neg, if_pos, if_neg, Option.elim]
    all_goals exact congrArg (fun i => b (ix1 i)) (Fin.ext (by dsimp only <;> omega))
  by_cases h9 : j.val < 716
  · simp (disch := omega) only [Cols.src, dif_pos, dif_neg, if_pos, if_neg, Option.elim]
    all_goals exact congrArg (fun i => b (ix1 i)) (Fin.ext (by dsimp only <;> omega))
  by_cases h10 : j.val < 832
  · simp (disch := omega) only [Cols.src, dif_pos, dif_neg, if_pos, if_neg, Option.elim]
    all_goals exact congrArg (fun i => b (ix1 i)) (Fin.ext (by dsimp only <;> omega))
  by_cases h11 : j.val < 836
  · simp (disch := omega) only [Cols.src, dif_pos, dif_neg, if_pos, if_neg, Option.elim]
    all_goals exact congrArg (fun i => b (ix1 i)) (Fin.ext (by dsimp only <;> omega))
  by_cases h12 : j.val < 840
  · simp (disch := omega) only [Cols.src, dif_pos, dif_neg, if_pos, if_neg, Option.elim]
    all_goals exact congrArg (fun i => b (ix1 i)) (Fin.ext (by dsimp only <;> omega))
  simp (disch := omega) only [Cols.src, dif_pos, dif_neg, if_pos, if_neg, Option.elim]
  all_goals exact congrArg (fun i => b (ix1 i)) (Fin.ext (by dsimp only <;> omega))

/-- The offsets laid out, at an index. -/
theorem offsets_at (b : FVec Ideal S2904 .f32) (j : Fin 3968) :
    offsets b (ix2 0 j) = Cols.lay (fun i => b (ix1 i)) j.val := by
  pointwise [offsets]
  split
  · exact offsets1_at b _
  · refine (offsets2_at b _).trans (congrArg _ ?_)
    dsimp only
    omega

/-- The region's weights are the argument's laid out. -/
theorem V_weights (c : Dev nD) : V m c main_v42 = weights (m ((c : Thread nD τ).loc main_arg1)) := by
  unfold V weights weights1 weights2
  after_reads_simp
  all_goals rfl

/-- The region's offsets are the argument's laid out. -/
theorem V_offsets (c : Dev nD) : V m c main_v84 = offsets (m ((c : Thread nD τ).loc main_arg2)) := by
  unfold V offsets offsets1 offsets2
  after_reads_simp
  all_goals rfl

/-- Every window's block at every grid point: 512 rows for the streams, the whole array for the weights and offsets. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The region's input rows are the argument's, the batch's rows one after the other. -/
theorem V_input (c : Dev nD) : V m c main_v0 = shapeCast S32768x1024 (m ((c : Thread nD τ).loc main_arg0)) shapeCasts_S16x2048x1024_S32768x1024 := by
  unfold V
  after_reads_simp
  all_goals rfl

/-- A batch's rows one after the other, at an index. -/
theorem rows_at (x : FVec Ideal S16x2048x1024 .f32) (q : Fin 32768) (k : Fin 1024) :
    shapeCast S32768x1024 x shapeCasts_S16x2048x1024_S32768x1024 (ix2 q k) = x (ix3 ⟨q.val / 2048, by omega⟩ ⟨q.val % 2048, by omega⟩ k) := by
  pointwise

/-- A grid point's block of the input. -/
abbrev inBlk (c : Dev nD) (t : Fin cfg0.N) : FVec Ideal S512x1024 .f32 := iblk m c 0 t

/-- A grid point's block of the weights. -/
abbrev wBlk (c : Dev nD) (t : Fin cfg0.N) : FVec Ideal S1024x3968 .bf16 := iblk m c 1 t

/-- A grid point's block of the offsets. -/
abbrev bBlk (c : Dev nD) (t : Fin cfg0.N) : FVec Ideal S1x3968 .f32 := iblk m c 2 t

/-- A grid point's rows of the input. -/
theorem input_at (c : Dev nD) (t : Fin cfg0.N) (p : Fin 512) (k : Fin 1024) (q : Fin 32768) (hq : q.val = t.val * 512 + p.val) :
    inBlk m c t (ix2 p k)
      = (m ((c : Thread nD τ).loc main_arg0) : FVec Ideal S16x2048x1024 .f32) (ix3 ⟨q.val / 2048, by omega⟩ ⟨q.val % 2048, by omega⟩ k) := by
  have e : (V m c main_v0 : FVec Ideal S32768x1024 .f32) (ix2 q k)
      = (m ((c : Thread nD τ).loc main_arg0) : FVec Ideal S16x2048x1024 .f32) (ix3 ⟨q.val / 2048, by omega⟩ ⟨q.val % 2048, by omega⟩ k) := by
    exact (congrFun (V_input m c) (ix2 q k)).trans (rows_at _ q k)
  have key : ∀ X : FVec Ideal S32768x1024 .f32, (((cfg0.win 0).blk t).view.read (Elt Ideal) X : FVec Ideal S512x1024 .f32) (ix2 p k) = X (ix2 q k) := by
    intro X
    blk_point [idx t]
  exact (key _).trans e

/-- Every grid point reads all weights. -/
theorem weights_blk (c : Dev nD) (t : Fin cfg0.N) (k : Fin 1024) (j : Fin 3968) :
    wBlk m c t (ix2 k j) = Cols.lay (fun i => (m ((c : Thread nD τ).loc main_arg1) : FVec Ideal S1024x2904 .f32) (ix2 k i)) j.val := by
  have key : ∀ X : FVec Ideal S1024x3968 .bf16, (((cfg0.win 1).blk t).view.read (Elt Ideal) X : FVec Ideal S1024x3968 .bf16) (ix2 k j) = X (ix2 k j) := by
    intro X
    blk_point [idx t]
  exact (key _).trans ((congrFun (V_weights m c) (ix2 k j)).trans (weights_at _ k j))

/-- Every grid point reads all offsets. -/
theorem offsets_blk (c : Dev nD) (t : Fin cfg0.N) (j : Fin 3968) :
    bBlk m c t (ix2 0 j) = Cols.lay (fun i => (m ((c : Thread nD τ).loc main_arg2) : FVec Ideal S2904 .f32) (ix1 i)) j.val := by
  have key : ∀ X : FVec Ideal S1x3968 .f32, (((cfg0.win 2).blk t).view.read (Elt Ideal) X : FVec Ideal S1x3968 .f32) (ix2 0 j) = X (ix2 0 j) := by
    intro X
    blk_point [idx t]
  exact (key _).trans ((congrFun (V_offsets m c) (ix2 0 j)).trans (offsets_at _ j))

/-- The projection over the kernel's own argument arrays. -/
abbrev proj (c : Dev nD) : FVec Ideal Cert.Reference4Ideal.S16x2048x2904 .f32 :=
  Cert.Reference4Ideal.Value.proj (m ((c : Thread nD τ).loc main_arg0)) (m ((c : Thread nD τ).loc main_arg1)) (m ((c : Thread nD τ).loc main_arg2))

/-- A row times the weights laid out, plus the offsets laid out, is the reference's row laid out. -/
theorem dot_at (c : Dev nD) (t : Fin cfg0.N) (p : Fin 512) (q : Fin 32768) (hq : q.val = t.val * 512 + p.val) (j : Fin 3968) :
    (∑ k : Fin 1024, inBlk m c t (ix2 p k) * wBlk m c t (ix2 k j))
        + bBlk m c t (ix2 0 j)
      = Cols.lay (Cert.Reference4Ideal.Value.row (proj m c) q) j.val := by
  refine Eq.trans (congrArg₂ (· + ·) (Finset.sum_congr rfl fun k _ => congrArg₂ (· * ·) (input_at m c t p k q hq) (weights_blk m c t k j)) (offsets_blk m c t j)) ?_
  refine (Cols.lay_dot _ _ _ _).trans (congrArg (fun f => Cols.lay f j.val) (funext fun i => ?_))
  exact (Cert.Reference4Ideal.Value.proj_at _ _ _ _ _ i).symm

/-- What the body stores in output 0, at an index. -/
theorem pay0_at (x : FVec Ideal S512x1024 .f32) (w : FVec Ideal S1024x3968 .bf16) (b : FVec Ideal S1x3968 .f32) (p : Fin 512) (l : Fin 1536) :
    k0_pay4 (F := Ideal) x (View.ld w r0_1) (View.ld b r0_2) (ix2 p l)
      = (∑ k : Fin 1024, x (ix2 p k) * w (ix2 k ⟨0 + l.val, by omega⟩)) + b (ix2 0 ⟨0 + l.val, by omega⟩) := by
  pointwise [k0_pay4, k0_pay3]

/-- What a grid point stores there at row `p` of its block is the reference's row `512 t + p`. -/
theorem point0 (c : Dev nD) (t : Fin cfg0.N) (p : Fin 512) (l : Fin 1536) (q : Fin 32768) (hq : q.val = t.val * 512 + p.val) :
    k0_pay4 (F := Ideal) (iblk m c 0 t) (View.ld (iblk m c 1 t) r0_1) (View.ld (iblk m c 2 t) r0_2) (ix2 p l) = Cert.Reference4Ideal.Value.group0 (proj m c) (ix2 q l) :=
  (pay0_at _ _ _ p l).trans ((dot_at m c t p q hq _).trans (Cert.Reference4Ideal.Value.group0_at _ q l).symm)

/-- Result array 0 after the run is the reference's. -/
theorem final0 (c : Dev nD) : (dats m 0 c).arrAt 3 (cfgs 0).N = Cert.Reference4Ideal.Value.group0 (proj m c) := by
  refine (dats m 0 c).arrAt_eq_of_covers 3 _ (by decide +kernel) fun t hf y => ?_
  blk_simp
  rw [after0_3]
  frame_out
  have ht : t.val < 64 := t.isLt
  have hy : (y 0).val < 512 := (y 0).isLt
  refine Eq.trans ?_ ((point0 m c t (y 0) (y 1) ⟨t.val * 512 + (y 0).val, by omega⟩ rfl).trans ?_)
  · exact congrArg _ (eq_ix2 y)
  · blk_ext [idx t]

/-- What the body stores in output 1, at an index. -/
theorem pay1_at (x : FVec Ideal S512x1024 .f32) (w : FVec Ideal S1024x3968 .bf16) (b : FVec Ideal S1x3968 .f32) (p : Fin 512) (l : Fin 768) :
    k0_pay5 (F := Ideal) x (View.ld w r0_4) (View.ld b r0_5) (ix2 p l)
      = (∑ k : Fin 1024, x (ix2 p k) * w (ix2 k ⟨1536 + l.val, by omega⟩)) + b (ix2 0 ⟨1536 + l.val, by omega⟩) := by
  pointwise [k0_pay5, k0_pay3]

/-- What a grid point stores there at row `p` of its block is the reference's row `512 t + p`. -/
theorem point1 (c : Dev nD) (t : Fin cfg0.N) (p : Fin 512) (l : Fin 768) (q : Fin 32768) (hq : q.val = t.val * 512 + p.val) :
    k0_pay5 (F := Ideal) (iblk m c 0 t) (View.ld (iblk m c 1 t) r0_4) (View.ld (iblk m c 2 t) r0_5) (ix2 p l) = Cert.Reference4Ideal.Value.group1 (proj m c) (ix2 q l) :=
  (pay1_at _ _ _ p l).trans ((dot_at m c t p q hq _).trans (Cert.Reference4Ideal.Value.group1_at _ q l).symm)

/-- Result array 1 after the run is the reference's. -/
theorem final1 (c : Dev nD) : (dats m 0 c).arrAt 4 (cfgs 0).N = Cert.Reference4Ideal.Value.group1 (proj m c) := by
  refine (dats m 0 c).arrAt_eq_of_covers 4 _ (by decide +kernel) fun t hf y => ?_
  blk_simp
  rw [after0_4]
  frame_out
  have ht : t.val < 64 := t.isLt
  have hy : (y 0).val < 512 := (y 0).isLt
  refine Eq.trans ?_ ((point1 m c t (y 0) (y 1) ⟨t.val * 512 + (y 0).val, by omega⟩ rfl).trans ?_)
  · exact congrArg _ (eq_ix2 y)
  · blk_ext [idx t]

/-- What the body stores in output 2, at an index. -/
theorem pay2_at (x : FVec Ideal S512x1024 .f32) (w : FVec Ideal S1024x3968 .bf16) (b : FVec Ideal S1x3968 .f32) (p : Fin 512) (l : Fin 768) :
    k0_pay6 (F := Ideal) x (View.ld w r0_7) (View.ld b r0_8) (ix2 p l)
      = (∑ k : Fin 1024, x (ix2 p k) * w (ix2 k ⟨2304 + l.val, by omega⟩)) + b (ix2 0 ⟨2304 + l.val, by omega⟩) := by
  pointwise [k0_pay6, k0_pay3]

/-- What a grid point stores there at row `p` of its block is the reference's row `512 t + p`. -/
theorem point2 (c : Dev nD) (t : Fin cfg0.N) (p : Fin 512) (l : Fin 768) (q : Fin 32768) (hq : q.val = t.val * 512 + p.val) :
    k0_pay6 (F := Ideal) (iblk m c 0 t) (View.ld (iblk m c 1 t) r0_7) (View.ld (iblk m c 2 t) r0_8) (ix2 p l) = Cert.Reference4Ideal.Value.group2 (proj m c) (ix2 q l) :=
  (pay2_at _ _ _ p l).trans ((dot_at m c t p q hq _).trans (Cert.Reference4Ideal.Value.group2_at _ q l).symm)

/-- Result array 2 after the run is the reference's. -/
theorem final2 (c : Dev nD) : (dats m 0 c).arrAt 5 (cfgs 0).N = Cert.Reference4Ideal.Value.group2 (proj m c) := by
  refine (dats m 0 c).arrAt_eq_of_covers 5 _ (by decide +kernel) fun t hf y => ?_
  blk_simp
  rw [after0_5]
  frame_out
  have ht : t.val < 64 := t.isLt
  have hy : (y 0).val < 512 := (y 0).isLt
  refine Eq.trans ?_ ((point2 m c t (y 0) (y 1) ⟨t.val * 512 + (y 0).val, by omega⟩ rfl).trans ?_)
  · exact congrArg _ (eq_ix2 y)
  · blk_ext [idx t]

/-- What the body stores in output 3, at an index. -/
theorem pay3_at (x : FVec Ideal S512x1024 .f32) (w : FVec Ideal S1024x3968 .bf16) (b : FVec Ideal S1x3968 .f32) (p : Fin 512) (l : Fin 768) :
    k0_pay1 (F := Ideal) (k0_pay7 x (View.ld w r0_9)) (View.ld b r0_10) (ix2 p l)
      = (∑ k : Fin 1024, x (ix2 p k) * w (ix2 k ⟨3072 + l.val, by omega⟩)) + b (ix2 0 ⟨3072 + l.val, by omega⟩) := by
  pointwise [k0_pay1, k0_pay7, k0_pay3]

/-- What a grid point stores there at row `p` of its block is the reference's row `512 t + p`. -/
theorem point3 (c : Dev nD) (t : Fin cfg0.N) (p : Fin 512) (l : Fin 768) (q : Fin 32768) (hq : q.val = t.val * 512 + p.val) :
    k0_pay1 (F := Ideal) (k0_pay7 (iblk m c 0 t) (View.ld (iblk m c 1 t) r0_9)) (View.ld (iblk m c 2 t) r0_10) (ix2 p l) = Cert.Reference4Ideal.Value.group3 (proj m c) (ix2 q l) :=
  (pay3_at _ _ _ p l).trans ((dot_at m c t p q hq _).trans (Cert.Reference4Ideal.Value.group3_at _ q l).symm)

/-- Result array 3 after the run is the reference's. -/
theorem final3 (c : Dev nD) : (dats m 0 c).arrAt 6 (cfgs 0).N = Cert.Reference4Ideal.Value.group3 (proj m c) := by
  refine (dats m 0 c).arrAt_eq_of_covers 6 _ (by decide +kernel) fun t hf y => ?_
  blk_simp
  rw [after0_6]
  frame_out
  have ht : t.val < 64 := t.isLt
  have hy : (y 0).val < 512 := (y 0).isLt
  refine Eq.trans ?_ ((point3 m c t (y 0) (y 1) ⟨t.val * 512 + (y 0).val, by omega⟩ rfl).trans ?_)
  · exact congrArg _ (eq_ix2 y)
  · blk_ext [idx t]

/-- What the body stores in output 4, at an index. -/
theorem pay4_at (x : FVec Ideal S512x1024 .f32) (w : FVec Ideal S1024x3968 .bf16) (b : FVec Ideal S1x3968 .f32) (p : Fin 512) (l : Fin 128) :
    k0_pay2 (F := Ideal) (k0_pay3 x) (View.ld w r0_11) (View.ld b r0_12) (ix2 p l)
      = (∑ k : Fin 1024, x (ix2 p k) * w (ix2 k ⟨3840 + l.val, by omega⟩)) + b (ix2 0 ⟨3840 + l.val, by omega⟩) := by
  pointwise [k0_pay2, k0_pay3]

/-- What a grid point stores there at row `p` of its block is the reference's row `512 t + p`. -/
theorem point4 (c : Dev nD) (t : Fin cfg0.N) (p : Fin 512) (l : Fin 128) (q : Fin 32768) (hq : q.val = t.val * 512 + p.val) :
    k0_pay2 (F := Ideal) (k0_pay3 (iblk m c 0 t)) (View.ld (iblk m c 1 t) r0_11) (View.ld (iblk m c 2 t) r0_12) (ix2 p l) = Cert.Reference4Ideal.Value.group4 (proj m c) (ix2 q l) :=
  (pay4_at _ _ _ p l).trans ((dot_at m c t p q hq _).trans (Cert.Reference4Ideal.Value.group4_at _ q l).symm)

/-- Result array 4 after the run is the reference's. -/
theorem final4 (c : Dev nD) : (dats m 0 c).arrAt 7 (cfgs 0).N = Cert.Reference4Ideal.Value.group4 (proj m c) := by
  refine (dats m 0 c).arrAt_eq_of_covers 7 _ (by decide +kernel) fun t hf y => ?_
  blk_simp
  rw [after0_7]
  frame_out
  have ht : t.val < 64 := t.isLt
  have hy : (y 0).val < 512 := (y 0).isLt
  refine Eq.trans ?_ ((point4 m c t (y 0) (y 1) ⟨t.val * 512 + (y 0).val, by omega⟩ rfl).trans ?_)
  · exact congrArg _ (eq_ix2 y)
  · blk_ext [idx t]

end Cert.Kernel4Ideal.Proj

end
-- ==== Proof.Proj.lean ====
module

public import proofs.«01_k».proof.Defs
public import proofs.«01_k».proof.Proof.Gen.Kernel4
public import proofs.«01_k».proof.Proof.ProjValue

/-! The claims of the in-projection: its frames, and its five results against the reference's. -/

@[expose] public section

noncomputable section

open Idealize.ShloMosaic Idealize.ShloMosaic.TcCoe Idealize.SL.Sem

namespace Cert.ProjClaims

set_option maxHeartbeats 4000000 in
/-- The two programs' kernel bodies are the same text. -/
theorem body_eq : @Cert.Kernel4.defs₀ Bits _ _ = @Cert.Kernel4Ideal.defs₀ Bits _ _ := by
  unfold Cert.Kernel4.defs₀ Cert.Kernel4Ideal.defs₀
  congr 1
  funext l x
  match l, x with
  | 0, (t, s) => rfl

/-- So are their tables of procedures. -/
theorem defs_eq : @Cert.Kernel4.defs Bits _ _ = @Cert.Kernel4Ideal.defs Bits _ _ :=
  congrArg (Pipeline.defs (Cert.Kernel4Ideal.pcfgs (F := Bits))) body_eq

set_option maxHeartbeats 4000000 in
/-- So are their host programs. -/
theorem main_eq : @Cert.Kernel4.main Bits _ _ = @Cert.Kernel4Ideal.main Bits _ _ := rfl

/-- The frame of the program over float words: the run made once for any values, read there. -/
theorem frame_kernel : Cert.quiescent_Kernel4 := fun m ρ _ => by
  rw [defs_eq, main_eq]
  exact Cert.Kernel4Ideal.Gen.frame (F := Bits) m ρ

/-- The frame of the program over the extended reals. -/
theorem frame_ideal : Cert.quiescent_Kernel4Ideal := fun m ρ _ => Cert.Kernel4Ideal.Gen.frame (F := Ideal) m ρ

/-- The frame of the reference. -/
theorem frame_reference : Cert.quiescent_Reference4Ideal := fun m ρ _ =>
  (θ_run Cert.Reference4Ideal.defs _ _).mono (fun r h => ⟨fun c => (h c).2.2.2.2.2, sem_eq_zero_of_no_sems (by decide) r.2⟩) (Cert.Reference4Ideal.Value.run (F := Ideal) m ρ)

open Cert.Reference4Ideal Cert.Reference4Ideal.Value in
/-- The reference's results are the groups of its projection. -/
theorem reference_run (m : (ℓ : Loc nD τ sig) → Buf (Elt Ideal) ℓ) (ρ : Dev nD → PrngReg)
    (z : Dev nD → FVec Ideal S16x2048x2904 .f32)
    (hz : ∀ c : Dev nD, proj (m ((c.tc : Thread nD τ).loc main_arg0)) (m ((c.tc : Thread nD τ).loc main_arg1)) (m ((c.tc : Thread nD τ).loc main_arg2)) = z c) :
    θ_run (defs (F := Ideal)) (onTc (τ := τ) (main (F := Ideal))) ⟨m, fun _ => 0, ρ⟩ fun r => ∀ c : Dev nD,
      r.2.mem ((c.tc : Thread nD τ).loc main_v43) = group0 (z c)
      ∧ r.2.mem ((c.tc : Thread nD τ).loc main_v44) = group1 (z c)
      ∧ r.2.mem ((c.tc : Thread nD τ).loc main_v45) = group2 (z c)
      ∧ r.2.mem ((c.tc : Thread nD τ).loc main_v46) = group3 (z c)
      ∧ r.2.mem ((c.tc : Thread nD τ).loc main_v47) = group4 (z c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.Reference4Ideal.Value.run (F := Ideal) m ρ)
  obtain ⟨h0, h1, h2, h3, h4, hk⟩ := h c
  rw [← hz c]
  exact ⟨h0.trans (by unfold res_main_v43 group0 proj; rfl), h1.trans (by unfold group1 proj; rfl), h2.trans (by unfold group2 proj; rfl),
    h3.trans (by unfold res_main_v46 group3 proj; rfl), h4.trans (by unfold group4 proj; rfl), hk⟩

/-- Over the extended reals the kernel's five results are the reference's. -/
theorem algebraic : Cert.algebraic_Kernel4Ideal_Reference4Ideal := by
  intro m g m' g' _ hagree
  refine ⟨fun c => Cert.Reference4Ideal.Value.group0 (Cert.Kernel4Ideal.Proj.proj m c),
    fun c => Cert.Reference4Ideal.Value.group1 (Cert.Kernel4Ideal.Proj.proj m c),
    fun c => Cert.Reference4Ideal.Value.group2 (Cert.Kernel4Ideal.Proj.proj m c),
    fun c => Cert.Reference4Ideal.Value.group3 (Cert.Kernel4Ideal.Proj.proj m c),
    fun c => Cert.Reference4Ideal.Value.group4 (Cert.Kernel4Ideal.Proj.proj m c),
    (θ_run Cert.Kernel4Ideal.defs _ _).mono (fun _ h c => ?_) (Cert.Kernel4Ideal.Value.run_blocks (F := Ideal) m g),
    reference_run m' g' (fun c => Cert.Kernel4Ideal.Proj.proj m c) fun c => ?_⟩
  · obtain ⟨h0, h1, h2, h3, h4, hk⟩ := h c
    exact ⟨h0.trans (Cert.Kernel4Ideal.Proj.final0 m c), h1.trans (Cert.Kernel4Ideal.Proj.final1 m c), h2.trans (Cert.Kernel4Ideal.Proj.final2 m c),
      h3.trans (Cert.Kernel4Ideal.Proj.final3 m c), h4.trans (Cert.Kernel4Ideal.Proj.final4 m c), hk⟩
  · obtain ⟨h0, h1, h2⟩ := hagree c
    rw [h0, h1, h2]

end Cert.ProjClaims

end
-- ==== Proof.Mlstm.lean ====
module

public import proofs.«01_k».proof.Defs
public import proofs.«01_k».proof.Proof.Gen.Kernel5
public import proofs.«01_k».proof.Proof.Gen.Kernel5Ideal.Frame

/-! The frames of the mLSTM call. -/

@[expose] public section

noncomputable section

open Idealize.ShloMosaic Idealize.ShloMosaic.TcCoe Idealize.SL.Sem

namespace Cert.MlstmClaims

set_option maxHeartbeats 4000000 in
/-- The two programs' kernel bodies are the same text. -/
theorem body_eq : @Cert.Kernel5.defs₀ Bits _ _ = @Cert.Kernel5Ideal.defs₀ Bits _ _ := by
  unfold Cert.Kernel5.defs₀ Cert.Kernel5Ideal.defs₀
  congr 1
  funext l x
  match l, x with
  | 0, (t, s) => rfl

/-- So are their tables of procedures. -/
theorem defs_eq : @Cert.Kernel5.defs Bits _ _ = @Cert.Kernel5Ideal.defs Bits _ _ :=
  congrArg (Pipeline.defs (Cert.Kernel5Ideal.pcfgs (F := Bits))) body_eq

set_option maxHeartbeats 4000000 in
/-- So are their host programs. -/
theorem main_eq : @Cert.Kernel5.main Bits _ _ = @Cert.Kernel5Ideal.main Bits _ _ := rfl

/-- The frame of the program over float words: the run made once for any values, read there. -/
theorem frame_kernel : Cert.quiescent_Kernel5 := fun m ρ _ => by
  rw [defs_eq, main_eq]
  exact Cert.Kernel5Ideal.Gen.frame (F := Bits) m ρ

/-- The frame of the program over the extended reals. -/
theorem frame_ideal : Cert.quiescent_Kernel5Ideal := fun m ρ _ => Cert.Kernel5Ideal.Gen.frame (F := Ideal) m ρ

end Cert.MlstmClaims

end
-- ==== Proof.TailBody.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The end of a layer: the runs of the feed-forward network's body. It runs in three ways: at the first of the four points that share
a block of rows, at a middle one, and at the last. -/

@[expose] public section

set_option maxRecDepth 16384

noncomputable section

namespace Cert.Kernel6Ideal.Tail

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the point is the first of its four. -/
abbrev isFirst (i : grid1.Coords) : Prop := (Scalar.cmpi .ne (Scalar.extui (Scalar.cmpi .eq (BitVec.ofNat 32 (i 1).val) 0#32)) 0#32) = 1#1
/-- The body's second condition: the point is the last of its four. -/
abbrev isLast (i : grid1.Coords) : Prop := k1_cond2 i = 1#1

theorem isFirst_iff : ∀ t : Fin cfg1.N, isFirst (grid1.coords t) ↔ t.val % 4 = 0 :=
  (fun t => by
    have ht : t.val < 128 := Nat.lt_of_lt_of_eq t.isLt N_1
    have e1 : (grid1.coords t 1).val = t.val / 1 % 4 := Pipeline.Grid.coords_val t 1 (by decide) rfl
    simp only [isFirst, e1]
    word_cmp
   : ∀ t : Fin grid1.N, isFirst (grid1.coords t) ↔ t.val % 4 = 0)

theorem isLast_iff : ∀ t : Fin cfg1.N, isLast (grid1.coords t) ↔ t.val % 4 = 3 :=
  (fun t => by
    have ht : t.val < 128 := Nat.lt_of_lt_of_eq t.isLt N_1
    have e1 : (grid1.coords t 1).val = t.val / 1 % 4 := Pipeline.Grid.coords_val t 1 (by decide) rfl
    simp only [isLast, k1_cond2, e1]
    word_cmp
   : ∀ t : Fin grid1.N, isLast (grid1.coords t) ↔ t.val % 4 = 3)

/-- Stores of which the last is over the whole block cover it. -/
theorem covers {e : EltTy} (p : Vec F S1024x1024 e) (L : List (View.Piece (Elt F) S1024x1024 e)) (y : S1024x1024.Idx) :
    ∃ pc ∈ ((⟨Rect.unit (s := S1024x1024) ![0, 0] S1024x1024.size inb_S1024x1024_S1024x1024_0_0, p⟩ : View.Piece (Elt F) S1024x1024 e) :: L), y ∈ pc.1.set := by
  obtain ⟨pc, h, hy⟩ := View.cover_of_tiled (Val := Elt F) (e := e) [⟨Rect.unit (s := S1024x1024) ![0, 0] S1024x1024.size inb_S1024x1024_S1024x1024_0_0, p⟩] S1024x1024.size (by rfl) y
  rw [List.mem_singleton] at h
  exact ⟨pc, h ▸ List.mem_cons_self .., hy⟩

variable (c : Dev nD) (i : grid1.Coords)
  (arg2 : Memref sig .tc .vmem S1024x1024 .f32) (harg2 : arg2.IsWhole) (arg3 : Memref sig .tc .vmem S1024x1024 .bf16) (harg3 : arg3.IsWhole)
  (arg4 : Memref sig .tc .vmem S1x1024 .f32) (harg4 : arg4.IsWhole) (arg5 : Memref sig .tc .vmem S1024x1024 .bf16) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1024x1024 .f32) (harg9 : arg9.IsWhole)
  (arg10 : Memref sig .tc .vmem S1024x1024 .bf16) (harg10 : arg10.IsWhole) (arg11 : Memref sig .tc .vmem S1024x1024 .f32) (harg11 : arg11.IsWhole)
  (x0 : Vec F S1024x1024 .f32) (x1 : Vec F S1024x1024 .bf16) (x2 : Vec F S1x1024 .f32) (x3 : Vec F S1024x1024 .bf16)
  (x4 x5 x6 : Vec F S1x1024 .f32) (s0 : Vec F S1024x1024 .bf16) (s1 : Vec F S1024x1024 .f32)

/-- The seven input windows at their contents. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6)

/-- The input windows' buffers are given back as they were. -/
theorem inputs_back (f0 : BufTy.Contents (Elt F) arg2.view.ty) (f1 : BufTy.Contents (Elt F) arg3.view.ty) (f2 : BufTy.Contents (Elt F) arg4.view.ty)
    (f3 : BufTy.Contents (Elt F) arg5.view.ty) (f4 : BufTy.Contents (Elt F) arg6.view.ty) (f5 : BufTy.Contents (Elt F) arg7.view.ty)
    (f6 : BufTy.Contents (Elt F) arg8.view.ty) :
    (iprop((arg2.view.loc (c : Thread nD τ) ↦[arg2.view.set]{fullShare} f0) ∗ (arg3.view.loc (c : Thread nD τ) ↦[arg3.view.set]{fullShare} f1)
      ∗ (arg4.view.loc (c : Thread nD τ) ↦[arg4.view.set]{fullShare} f2) ∗ (arg5.view.loc (c : Thread nD τ) ↦[arg5.view.set]{fullShare} f3)
      ∗ (arg6.view.loc (c : Thread nD τ) ↦[arg6.view.set]{fullShare} f4) ∗ (arg7.view.loc (c : Thread nD τ) ↦[arg7.view.set]{fullShare} f5)
      ∗ (arg8.view.loc (c : Thread nD τ) ↦[arg8.view.set]{fullShare} f6)) : sProp 𝕄)
      ⊢ inputs c arg2 arg3 arg4 arg5 arg6 arg7 arg8 (arg2.view.read (Elt F) f0) (arg3.view.read (Elt F) f1) (arg4.view.read (Elt F) f2)
          (arg5.view.read (Elt F) f3) (arg6.view.read (Elt F) f4) (arg7.view.read (Elt F) f5) (arg8.view.read (Elt F) f6) := by
  unfold inputs owns
  iintro ⟨H0, H1, H2, H3, H4, H5, H6⟩
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists f6; isplitr; · ipureintro; rfl
  iexact H6

set_option maxHeartbeats 2000000 in
/-- The body at the first of four points: it copies the rows and starts the accumulator with its part. -/
theorem run_first (h0 : isFirst i) (h1 : ¬isLast i) (x7 : Vec F S1024x1024 .f32) (E : Set ℕ) (K : PUnit → sProp 𝕄) :
    iprop(inputs c arg2 arg3 arg4 arg5 arg6 arg7 arg8 x0 x1 x2 x3 x4 x5 x6 ∗ owns (c : Thread nD τ) arg9 fullShare x7
        ∗ (∃ d, owns (c : Thread nD τ) arg10 fullShare d) ∗ (∃ d, owns (c : Thread nD τ) arg11 fullShare d)
        ∗ (iprop(inputs c arg2 arg3 arg4 arg5 arg6 arg7 arg8 x0 x1 x2 x3 x4 x5 x6 ∗ owns (c : Thread nD τ) arg9 fullShare x7
            ∗ owns (c : Thread nD τ) arg10 fullShare (k1_pay1 x0)
            ∗ owns (c : Thread nD τ) arg11 fullShare (k1_pay3 (k1_pay1 x0) x1 x2 (k1_pay2 (F := F)) x3)) -∗ K ⟨⟩))
      ⊢ wp frame (wpE (defs₀ (F := F)) Variants.none c none) E (cc1_ffn_ln i arg2 harg2 arg3 harg3 arg4 harg4 arg5 harg5 arg6 harg6 arg7 harg7
        arg8 harg8 arg9 harg9 arg10 harg10 arg11 harg11) K := by
  simp only [cc1_ffn_ln_eq_skeleton]; unfold cc1_ffn_ln_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨%f7, %hf7, H7⟩, ⟨%d0, %g0, -, HS0⟩, ⟨%d1, %g1, -, HS1⟩, Hk⟩
  subst hf0 hf1 hf2 hf3 hf4 hf5 hf6 hf7
  sl_exec (disch := first | sl_exact h0 | sl_exact h1)
  sl_step
  iapply Hk
  isplitl [H0 H1 H2 H3 H4 H5 H6]
  · iapply (inputs_back c arg2 arg3 arg4 arg5 arg6 arg7 arg8 f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    iexact H6
  isplitl [H7]
  · iexists f7; isplitr; · ipureintro; rfl
    iexact H7
  isplitl [HS0]
  · iexists _; isplitr
    swap; · iexact HS0
    ipureintro
    refine (View.read_writes_eq_canon _ _ _ (covers _ _)).trans ?_
    frame_out
  iexists _; isplitr
  swap; · iexact HS1
  ipureintro
  refine (View.read_writes_eq_canon _ _ _ (covers _ _)).trans ?_
  frame_out

set_option maxHeartbeats 2000000 in
/-- The body at a middle point: it adds its part to the accumulator. -/
theorem run_mid (h0 : ¬isFirst i) (h1 : ¬isLast i) (x7 : Vec F S1024x1024 .f32) (E : Set ℕ) (K : PUnit → sProp 𝕄) :
    iprop(inputs c arg2 arg3 arg4 arg5 arg6 arg7 arg8 x0 x1 x2 x3 x4 x5 x6 ∗ owns (c : Thread nD τ) arg9 fullShare x7
        ∗ owns (c : Thread nD τ) arg10 fullShare s0 ∗ owns (c : Thread nD τ) arg11 fullShare s1
        ∗ (iprop(inputs c arg2 arg3 arg4 arg5 arg6 arg7 arg8 x0 x1 x2 x3 x4 x5 x6 ∗ owns (c : Thread nD τ) arg9 fullShare x7
            ∗ owns (c : Thread nD τ) arg10 fullShare s0 ∗ owns (c : Thread nD τ) arg11 fullShare (k1_pay3 s0 x1 x2 s1 x3)) -∗ K ⟨⟩))
      ⊢ wp frame (wpE (defs₀ (F := F)) Variants.none c none) E (cc1_ffn_ln i arg2 harg2 arg3 harg3 arg4 harg4 arg5 harg5 arg6 harg6 arg7 harg7
        arg8 harg8 arg9 harg9 arg10 harg10 arg11 harg11) K := by
  simp only [cc1_ffn_ln_eq_skeleton]; unfold cc1_ffn_ln_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨%f7, %hf7, H7⟩, ⟨%g0, %hg0, HS0⟩, ⟨%g1, %hg1, HS1⟩, Hk⟩
  subst hf0 hf1 hf2 hf3 hf4 hf5 hf6 hf7 hg0 hg1
  sl_exec (disch := first | sl_exact h0 | sl_exact h1)
  sl_step
  iapply Hk
  isplitl [H0 H1 H2 H3 H4 H5 H6]
  · iapply (inputs_back c arg2 arg3 arg4 arg5 arg6 arg7 arg8 f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    iexact H6
  isplitl [H7]
  · iexists f7; isplitr; · ipureintro; rfl
    iexact H7
  isplitl [HS0]
  · iexists g0; isplitr; · ipureintro; rfl
    iexact HS0
  iexists _; isplitr
  swap; · iexact HS1
  ipureintro
  refine (View.read_writes_eq_canon _ _ _ (covers _ _)).trans ?_
  frame_out

set_option maxHeartbeats 2000000 in
/-- The body at the last of four points: it adds its part to the accumulator and stores the norm over it. -/
theorem run_last (h0 : ¬isFirst i) (h1 : isLast i) (E : Set ℕ) (K : PUnit → sProp 𝕄) :
    iprop(inputs c arg2 arg3 arg4 arg5 arg6 arg7 arg8 x0 x1 x2 x3 x4 x5 x6 ∗ (∃ d, owns (c : Thread nD τ) arg9 fullShare d)
        ∗ owns (c : Thread nD τ) arg10 fullShare s0 ∗ owns (c : Thread nD τ) arg11 fullShare s1
        ∗ (iprop(inputs c arg2 arg3 arg4 arg5 arg6 arg7 arg8 x0 x1 x2 x3 x4 x5 x6 ∗ owns (c : Thread nD τ) arg9 fullShare (k1_pay4 x0 (k1_pay3 s0 x1 x2 s1 x3) x4 x5 x6)
            ∗ owns (c : Thread nD τ) arg10 fullShare s0 ∗ owns (c : Thread nD τ) arg11 fullShare (k1_pay3 s0 x1 x2 s1 x3)) -∗ K ⟨⟩))
      ⊢ wp frame (wpE (defs₀ (F := F)) Variants.none c none) E (cc1_ffn_ln i arg2 harg2 arg3 harg3 arg4 harg4 arg5 harg5 arg6 harg6 arg7 harg7
        arg8 harg8 arg9 harg9 arg10 harg10 arg11 harg11) K := by
  simp only [cc1_ffn_ln_eq_skeleton]; unfold cc1_ffn_ln_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨%d7, %f7, -, H7⟩, ⟨%g0, %hg0, HS0⟩, ⟨%g1, %hg1, HS1⟩, Hk⟩
  subst hf0 hf1 hf2 hf3 hf4 hf5 hf6 hg0 hg1
  sl_exec (disch := first | sl_exact h0 | sl_exact h1)
  sl_step
  iapply Hk
  isplitl [H0 H1 H2 H3 H4 H5 H6]
  · iapply (inputs_back c arg2 arg3 arg4 arg5 arg6 arg7 arg8 f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    iexact H6
  isplitl [H7]
  · iexists _; isplitr
    swap; · iexact H7
    ipureintro
    refine (View.read_writes_eq_canon _ _ _ (covers _ _)).trans ?_
    frame_out
  isplitl [HS0]
  · iexists g0; isplitr; · ipureintro; rfl
    iexact HS0
  iexists _; isplitr
  swap; · iexact HS1
  ipureintro
  refine (View.read_writes_eq_canon _ _ _ (covers _ _)).trans ?_
  frame_out

end Cert.Kernel6Ideal.Tail

end
-- ==== Proof.TailFfn.lean ====
module

public import proofs.«01_k».proof.Proof.TailBody

/-! The end of a layer: the feed-forward network's call, from the arrays as it finds them. The two arrays that it keeps between points,
the copied rows and the accumulator, are followed. -/

@[expose] public section

set_option maxRecDepth 16384

noncomputable section

namespace Cert.Kernel6Ideal.Tail

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The copied rows and the accumulator after the first of four points. -/
def start (c : Dev nD) (t : Fin cfg1.N) : Vec F S1024x1024 .bf16 × Vec F S1024x1024 .f32 :=
  (k1_pay1 (blk1 V c 0 t), k1_pay3 (k1_pay1 (blk1 V c 0 t)) (blk1 V c 1 t) (blk1 V c 2 t) (k1_pay2 (F := F)) (blk1 V c 3 t))

/-- The same after a later point, from those before it. -/
def step (c : Dev nD) (t : Fin cfg1.N) (p : Vec F S1024x1024 .bf16 × Vec F S1024x1024 .f32) : Vec F S1024x1024 .bf16 × Vec F S1024x1024 .f32 :=
  (p.1, k1_pay3 p.1 (blk1 V c 1 t) (blk1 V c 2 t) p.2 (blk1 V c 3 t))

/-- The copied rows and the accumulator after every point. -/
def kept (c : Dev nD) : (n : ℕ) → n < cfg1.N → Vec F S1024x1024 .bf16 × Vec F S1024x1024 .f32
  | 0, hn => start V c ⟨0, hn⟩
  | n + 1, hn => if (n + 1) % 4 = 0 then start V c ⟨n + 1, hn⟩ else step V c ⟨n + 1, hn⟩ (kept c n (Nat.lt_of_succ_lt hn))

theorem kept_first (c : Dev nD) (t : Fin cfg1.N) (h : t.val % 4 = 0) : kept V c t.val t.isLt = start V c t := by
  obtain ⟨n, hn⟩ := t
  cases n with
  | zero => rfl
  | succ n => exact if_pos h

theorem kept_next (c : Dev nD) (t : Fin cfg1.N) (h : ¬t.val % 4 = 0) :
    kept V c t.val t.isLt = step V c t (kept V c (t.val - 1) (Nat.lt_of_le_of_lt (Nat.sub_le _ _) t.isLt)) := by
  obtain ⟨n, hn⟩ := t
  cases n with
  | zero => exact absurd (Nat.zero_mod 4) h
  | succ n => exact if_neg h

/-- The two arrays kept between points. -/
abbrev rowsM : Memref sig .tc .vmem S1024x1024 .bf16 := Memref.whole cc1_scratch0
abbrev accM : Memref sig .tc .vmem S1024x1024 .f32 := Memref.whole cc1_scratch1

/-- The staging buffers of the other call, at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- What the call finds of the arrays kept between points. -/
theorem scratch_in (c : Dev nD) : (Pipeline.ΦA spec1 c : sProp 𝕄)
    ⊢ iprop((others c ∗ (∃ d, owns (c : Thread nD τ) rowsM fullShare d) ∗ (∃ d, owns (c : Thread nD τ) accM fullShare d)) ∗ (∃ r, prngReg c r)) := by
  unfold Pipeline.ΦA others; rw [scopedRest1_eq]; simp only [rowsM, accM, owns_whole]
  iintro ⟨⟨K0, K1, K2, K3, K4, K5, K6, K7, K8, K9, K10, K11, K12, K13, K14, K15, HS0, HS1⟩, Hg⟩
  isplitr [Hg]
  · isplitl [K0 K1 K2 K3 K4 K5 K6 K7 K8 K9 K10 K11 K12 K13 K14 K15]
    · isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [K11]; · iexact K11
      isplitl [K12]; · iexact K12
      isplitl [K13]; · iexact K13
      isplitl [K14]; · iexact K14
      iexact K15
    isplitl [HS0]; · iexact HS0
    iexact HS1
  iexact Hg

/-- The same given back. -/
theorem scratch_out (c : Dev nD) :
    iprop((others c ∗ (∃ d, owns (c : Thread nD τ) rowsM fullShare d) ∗ (∃ d, owns (c : Thread nD τ) accM fullShare d)) ∗ (∃ r, prngReg c r))
      ⊢ (Pipeline.ΦA spec1 c : sProp 𝕄) := by
  unfold Pipeline.ΦA others; rw [scopedRest1_eq]; simp only [rowsM, accM, owns_whole]
  iintro ⟨⟨⟨K0, K1, K2, K3, K4, K5, K6, K7, K8, K9, K10, K11, K12, K13, K14, K15⟩, HS0, HS1⟩, Hg⟩
  isplitr [Hg]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    isplitl [HS0]; · iexact HS0
    iexact HS1
  iexact Hg

/-- What the call keeps before point `n`. -/
def Phi (c : Dev nD) : (n : ℕ) → n ≤ cfg1.N → sProp 𝕄
  | 0, _ => Pipeline.ΦA spec1 c
  | n + 1, hn => iprop((others c ∗ owns (c : Thread nD τ) rowsM fullShare (kept V c n hn).1 ∗ owns (c : Thread nD τ) accM fullShare (kept V c n hn).2)
      ∗ (∃ r, prngReg c r))

/-- Before a later point: the arrays at what the point before left. -/
theorem Phi_pos (c : Dev nD) (n : ℕ) (h : n ≤ cfg1.N) (hz : n ≠ 0) :
    Phi V c n h = iprop((others c ∗ owns (c : Thread nD τ) rowsM fullShare (kept V c (n - 1) (by omega)).1
      ∗ owns (c : Thread nD τ) accM fullShare (kept V c (n - 1) (by omega)).2) ∗ (∃ r, prngReg c r)) := by
  cases n with
  | zero => exact absurd rfl hz
  | succ n => rfl

/-- Before any point: the arrays at some contents. -/
theorem Phi_any (c : Dev nD) (n : ℕ) (h : n ≤ cfg1.N) :
    Phi V c n h ⊢ iprop((others c ∗ (∃ d, owns (c : Thread nD τ) rowsM fullShare d) ∗ (∃ d, owns (c : Thread nD τ) accM fullShare d)) ∗ (∃ r, prngReg c r)) := by
  cases n with
  | zero => exact scratch_in c
  | succ n =>
    unfold Phi
    iintro ⟨⟨Hr, HS0, HS1⟩, Hg⟩
    isplitr [Hg]
    · isplitl [Hr]; · iexact Hr
      isplitl [HS0]; · iexists _; iexact HS0
      iexists _; iexact HS1
    iexact Hg

/-- The call's proof data: the arrays as it finds them, every input block unchanged by the body, the output block the norm over the
accumulator. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => k1_pay4 (blk1 V c 0 t) (kept V c t.val t.isLt).2 (blk1 V c 4 t) (blk1 V c 5 t) (blk1 V c 6 t)
  Φ t := Phi V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The output block after the body. -/
theorem after1_7 (c : Dev nD) (t : Fin cfg1.N) :
    (dat1 V c).after 7 t = k1_pay4 (blk1 V c 0 t) (kept V c t.val t.isLt).2 (blk1 V c 4 t) (blk1 V c 5 t) (blk1 V c 6 t) := by
  dsimp only [dat1]

/-- An input window's buffer holds its block when the body starts. -/
theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = blk1 V c 6 t :=
  ((dat1 V c).before_in_eq_fetched 6 rfl (fun _ => rfl) (fun _ _ _ => rfl) (fun _ => rfl) t d).trans rfl

/-- And when it ends. -/
theorem leaves1_0 (c : Dev nD) (t : Fin cfg1.N) : (dat1 V c).leavesExact 0 t = owns (c : Thread nD τ) (st1_0 t) fullShare (blk1 V c 0 t) := by
  unfold Dat.leavesExact; rw [show cfg1.idle 0 (cfg1.grid.coords t) = false from rfl]; rfl
theorem leaves1_1 (c : Dev nD) (t : Fin cfg1.N) : (dat1 V c).leavesExact 1 t = owns (c : Thread nD τ) (st1_1 t) fullShare (blk1 V c 1 t) := by
  unfold Dat.leavesExact; rw [show cfg1.idle 1 (cfg1.grid.coords t) = false from rfl]; rfl
theorem leaves1_2 (c : Dev nD) (t : Fin cfg1.N) : (dat1 V c).leavesExact 2 t = owns (c : Thread nD τ) (st1_2 t) fullShare (blk1 V c 2 t) := by
  unfold Dat.leavesExact; rw [show cfg1.idle 2 (cfg1.grid.coords t) = false from rfl]; rfl
theorem leaves1_3 (c : Dev nD) (t : Fin cfg1.N) : (dat1 V c).leavesExact 3 t = owns (c : Thread nD τ) (st1_3 t) fullShare (blk1 V c 3 t) := by
  unfold Dat.leavesExact; rw [show cfg1.idle 3 (cfg1.grid.coords t) = false from rfl]; rfl
theorem leaves1_4 (c : Dev nD) (t : Fin cfg1.N) : (dat1 V c).leavesExact 4 t = owns (c : Thread nD τ) (st1_4 t) fullShare (blk1 V c 4 t) := by
  unfold Dat.leavesExact; rw [show cfg1.idle 4 (cfg1.grid.coords t) = false from rfl]; rfl
theorem leaves1_5 (c : Dev nD) (t : Fin cfg1.N) : (dat1 V c).leavesExact 5 t = owns (c : Thread nD τ) (st1_5 t) fullShare (blk1 V c 5 t) := by
  unfold Dat.leavesExact; rw [show cfg1.idle 5 (cfg1.grid.coords t) = false from rfl]; rfl
theorem leaves1_6 (c : Dev nD) (t : Fin cfg1.N) : (dat1 V c).leavesExact 6 t = owns (c : Thread nD τ) (st1_6 t) fullShare (blk1 V c 6 t) := by
  unfold Dat.leavesExact; rw [show cfg1.idle 6 (cfg1.grid.coords t) = false from rfl]; rfl

/-- At a point that is not the last of four the output window is idle. -/
theorem idle1_7 : ∀ t : Fin cfg1.N, ¬isLast (grid1.coords t) → cfg1.idle 7 (grid1.coords t) = true := by decide +kernel
/-- And is not written back. -/
theorem noFlush1_7 : ∀ t : Fin cfg1.N, ¬isLast (grid1.coords t) → (cfg1.win 7).flush t = false := by decide +kernel
/-- At the last it is stored into. -/
theorem live1_7 : ∀ t : Fin cfg1.N, isLast (grid1.coords t) → cfg1.idle 7 (grid1.coords t) = false := by decide +kernel

/-- What the body starts from. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body ends with. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body's triple at every point, by the place of the point among its four. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6]
  rw [show (dat1 V c).owesAt () t.succ = (dat1 V c).owesAt () t.castSucc from rfl, leaves1_0, leaves1_1, leaves1_2, leaves1_3, leaves1_4, leaves1_5, leaves1_6,
    show (dat1 V c).Φ t.succ = iprop((others c ∗ owns (c : Thread nD τ) rowsM fullShare (kept V c t.val t.isLt).1
      ∗ owns (c : Thread nD τ) accM fullShare (kept V c t.val t.isLt).2) ∗ (∃ r, prngReg c r)) from rfl,
    show (dat1 V c).Φ t.castSucc = Phi V c t.val (Nat.le_of_lt t.isLt) from rfl]
  by_cases h0 : t.val % 4 = 0
  · have h1 : ¬t.val % 4 = 3 := by omega
    have g0 := (isFirst_iff t).mpr h0
    have g1 : ¬isLast (grid1.coords t) := fun h => h1 ((isLast_iff t).mp h)
    rw [Dat.leavesExact_idle (dat1 V c) 7 t (idle1_7 t g1) (noFlush1_7 t g1), kept_first V c t h0]
    have hP := Phi_any V c t.val (Nat.le_of_lt t.isLt)
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HQ := hP $$ HP
    icases HQ with ⟨⟨Hr, HS0, HS1⟩, Hg⟩
    iapply (run_first c (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) g0 g1 _ Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS0]; · iexact HS0
    isplitl [HS1]; · iexact HS1
    iintro ⟨⟨H0, H1, H2, H3, H4, H5, H6⟩, H7, HS0, HS1⟩
    isplitl [Hr HS0 HS1 Hg]
    · isplitr [Hg]
      · isplitl [Hr]; · iexact Hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [Phi_pos V c _ _ (by omega : t.val ≠ 0), kept_next V c t h0]
    have g0 : ¬isFirst (grid1.coords t) := fun h => h0 ((isFirst_iff t).mp h)
    by_cases h1 : t.val % 4 = 3
    · have g1 := (isLast_iff t).mpr h1
      rw [show (dat1 V c).leavesExact 7 t = owns (c : Thread nD τ) (st1_7 t) fullShare ((dat1 V c).after 7 t) from by
        unfold Dat.leavesExact; rw [live1_7 t g1], after1_7, kept_next V c t h0]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) _ _ g0 g1 Set.univ _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [HS0]; · iexact HS0
      isplitl [HS1]; · iexact HS1
      iintro ⟨⟨H0, H1, H2, H3, H4, H5, H6⟩, H7, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have g1 : ¬isLast (grid1.coords t) := fun h => h1 ((isLast_iff t).mp h)
      rw [Dat.leavesExact_idle (dat1 V c) 7 t (idle1_7 t g1) (noFlush1_7 t g1)]
      iintro ⟨⟨⟨Hr, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) _ _ g0 g1 _ Set.univ _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [HS0]; · iexact HS0
      isplitl [HS1]; · iexact HS1
      iintro ⟨⟨H0, H1, H2, H3, H4, H5, H6⟩, H7, HS0, HS1⟩
      isplitl [Hr HS0 HS1 Hg]
      · isplitr [Hg]
        · isplitl [Hr]; · iexact Hr
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body as the call table has it. -/
theorem row1 (t : Fin cfg1.N) : defs₀ (F := F) .tc cfg1.body (cfg1.bodyArgs t (cfg1.slots t)) = bodyAt1 t := by
  unfold defs₀; rw [Defs.onTc_tc]

/-- The body's obligation at every point. -/
theorem body1 (c : Dev nD) : BodyObligation (dat1 (F := F) V c) (defs₀ (F := F)) Variants.none () Set.univ := fun t => by
  rw [bigSep_W1, bigSep_W1, row1]
  exact triple_restated (sound1 V c t) rfl .rfl fun _ => .rfl

/-- After the last point the arrays are given back at some contents. -/
theorem out1 (c : Dev nD) : (dat1 V c).Φ (Fin.last cfg1.N) ⊢ Pipeline.ΦA spec1 c :=
  (Phi_any V c cfg1.N le_rfl).trans (scratch_out c)

end Cert.Kernel6Ideal.Tail

end
-- ==== Proof.TailOut.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The end of a layer: the out-projection's call, from the arrays as it finds them. -/

@[expose] public section

set_option maxRecDepth 16384

noncomputable section

namespace Cert.Kernel6Ideal.Tail

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights' rows of one mixer. -/
abbrev part0 : Rect S1024x1024 := Rect.unit (s := S1024x1024) ![0, 0] S256x1024.size inb_S1024x1024_S256x1024_0_0
abbrev part1 : Rect S1024x1024 := Rect.unit (s := S1024x1024) ![256, 0] S256x1024.size inb_S1024x1024_S256x1024_256_0
abbrev part2 : Rect S1024x1024 := Rect.unit (s := S1024x1024) ![512, 0] S256x1024.size inb_S1024x1024_S256x1024_512_0
abbrev part3 : Rect S1024x1024 := Rect.unit (s := S1024x1024) ![768, 0] S256x1024.size inb_S1024x1024_S256x1024_768_0

/-- What the body stores, from its input blocks. -/
def stored (x0 : Vec F S512x1024 .f32) (x1 x2 x3 x4 : Vec F S512x256 .f32) (x5 : Vec F S1024x1024 .bf16) (x6 x7 x8 : Vec F S1x1024 .f32) : Vec F S512x1024 .f32 :=
  k0_pay1 (k0_pay2 x6 x1 (View.ld x5 part0) x2 (View.ld x5 part1) x3 (View.ld x5 part2) x4 (View.ld x5 part3)) (k0_pay3 x0) (k0_pay4 (F := F)) x7 x8

/-- One store over a whole block covers it. -/
theorem covers0 (p : Vec F S512x1024 .f32) (y : S512x1024.Idx) :
    ∃ pc ∈ ([⟨Rect.unit (s := S512x1024) ![0, 0] S512x1024.size inb_S512x1024_S512x1024_0_0, p⟩] : List (View.Piece (Elt F) S512x1024 .f32)), y ∈ pc.1.set :=
  View.cover_of_tiled [⟨Rect.unit (s := S512x1024) ![0, 0] S512x1024.size inb_S512x1024_S512x1024_0_0, p⟩] S512x1024.size (by rfl) y

set_option maxHeartbeats 2000000 in
/-- The body's run. -/
theorem run_out (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole)
    (x0 : Vec F S512x1024 .f32) (x1 x2 x3 x4 : Vec F S512x256 .f32) (x5 : Vec F S1024x1024 .bf16) (x6 x7 x8 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (stored x0 x1 x2 x3 x4 x5 x6 x7 x8)) -∗ K ⟨⟩))
      ⊢ wp frame (wpE (defs₀ (F := F)) Variants.none c none) E (cc0_outproj_ln i arg1 harg1 arg2 harg2 arg3 harg3 arg4 harg4 arg5 harg5 arg6 harg6 arg7 harg7 arg8 harg8 arg9 harg9 arg10 harg10) K := by
  simp only [cc0_outproj_ln_eq_skeleton]; unfold cc0_outproj_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (covers0 _)).trans ?_
  frame_out
  rfl

variable (V : (c : Dev nD) → (b : Ref sig .tc) → Buf (Elt F) ((c : Thread nD τ).loc b))

/-- A window's block at a point, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's proof data: the arrays as it finds them, every input block unchanged by the body, the output block as stored. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => stored (blk0 V c 0 t) (blk0 V c 1 t) (blk0 V c 2 t) (blk0 V c 3 t) (blk0 V c 4 t) (blk0 V c 5 t) (blk0 V c 6 t) (blk0 V c 7 t) (blk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- The output block after the body. -/
theorem after0_9 (c : Dev nD) (t : Fin cfg0.N) :
    (dat0 V c).after 9 t = stored (blk0 V c 0 t) (blk0 V c 1 t) (blk0 V c 2 t) (blk0 V c 3 t) (blk0 V c 4 t) (blk0 V c 5 t) (blk0 V c 6 t) (blk0 V c 7 t) (blk0 V c 8 t) := by
  dsimp only [dat0]

/-- An input window's buffer holds its block when the body starts. -/
theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = blk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = blk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = blk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = blk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = blk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = blk0 V c 8 t :=
  ((dat0 V c).before_in_eq_fetched 8 rfl (fun _ => rfl) (fun _ _ _ => rfl) (fun _ => rfl) t d).trans rfl

/-- What the body starts from. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body ends with. -/
def post0 (c : Dev nD) (t : Fin cfg0.N) : sProp 𝕄 :=
  iprop((dat0 V c).Φ t.succ ∗ (dat0 V c).owesAt () t.succ
    ∗ owns (c : Thread nD τ) (st0_0 t) fullShare (blk0 V c 0 t)
    ∗ owns (c : Thread nD τ) (st0_1 t) fullShare (blk0 V c 1 t)
    ∗ owns (c : Thread nD τ) (st0_2 t) fullShare (blk0 V c 2 t)
    ∗ owns (c : Thread nD τ) (st0_3 t) fullShare (blk0 V c 3 t)
    ∗ owns (c : Thread nD τ) (st0_4 t) fullShare (blk0 V c 4 t)
    ∗ owns (c : Thread nD τ) (st0_5 t) fullShare (blk0 V c 5 t)
    ∗ owns (c : Thread nD τ) (st0_6 t) fullShare (blk0 V c 6 t)
    ∗ owns (c : Thread nD τ) (st0_7 t) fullShare (blk0 V c 7 t)
    ∗ owns (c : Thread nD τ) (st0_8 t) fullShare (blk0 V c 8 t)
    ∗ owns (c : Thread nD τ) (st0_9 t) fullShare ((dat0 V c).after 9 t))

set_option maxHeartbeats 2000000 in
/-- The body's triple at every point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl, after0_9]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_out c (grid0.coords t) _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body as the call table has it. -/
theorem row0 (t : Fin cfg0.N) : defs₀ (F := F) .tc cfg0.body (cfg0.bodyArgs t (cfg0.slots t)) = bodyAt0 t := by
  unfold defs₀; rw [Defs.onTc_tc]

/-- The body's obligation at every point. -/
theorem body0 (c : Dev nD) : BodyObligation (dat0 (F := F) V c) (defs₀ (F := F)) Variants.none () Set.univ := fun t => by
  rw [bigSep_W0, bigSep_W0, row0]
  exact triple_restated (sound0 V c t) rfl .rfl fun _ => .rfl

end Cert.Kernel6Ideal.Tail

end
-- ==== Proof.TailRun.lean ====
module

public import proofs.«01_k».proof.Proof.TailFfn
public import proofs.«01_k».proof.Proof.TailOut
public import Idealize.ShloMosaic.Lib.Pipeline.RegionsLoop
public import Idealize.ShloMosaic.Lib.Pipeline.FrameSuffix

/-! The end of a layer: the run from the launch to the return. The contents of the arrays are followed from one call to the next. -/

@[expose] public section

set_option maxRecDepth 16384

noncomputable section

namespace Cert.Kernel6Ideal.Tail

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14]

/-- The operations before the first call: no array is made, the results are written, the arguments are not. -/
theorem fresh0 : (hostOps0 : List (HloOp τ sig (Elt F))).Forall fun op => op.fresh = ∅ := by
  simp only [List.Forall]; repeat' constructor
abbrev written0 : List (Ref sig .tc) := [main_v0, main_v1, main_v2, main_v3, main_v4, main_v5, main_v6, main_v7, main_v8]
theorem writes0 : (hostOps0 : List (HloOp τ sig (Elt F))).Forall fun op => op.writes ⊆ (written0.map (Proc.devRef (τ := τ) .tc)).toFinset :=
  StableHlo.forall_writes_sub_of_map rfl
theorem keeps0 : ∀ a ∈ argRefs, a ∉ written0 := ListAll.forall_mem_of_all_decide (by decide +kernel)

/-- The same of the operations between the calls. -/
theorem fresh1 : (hostOps1 : List (HloOp τ sig (Elt F))).Forall fun op => op.fresh = ∅ := by
  simp only [List.Forall]; repeat' constructor
abbrev written1 : List (Ref sig .tc) := [main_v10, main_v11, main_v12, main_v13, main_v14, main_v15]
theorem writes1 : (hostOps1 : List (HloOp τ sig (Elt F))).Forall fun op => op.writes ⊆ (written1.map (Proc.devRef (τ := τ) .tc)).toFinset :=
  StableHlo.forall_writes_sub_of_map rfl
theorem keeps1 : ∀ a ∈ argRefs, a ∉ written1 := ListAll.forall_mem_of_all_decide (by decide +kernel)

/-- The same of the operation after the second call. -/
theorem fresh2 : (hostOps2 : List (HloOp τ sig (Elt F))).Forall fun op => op.fresh = ∅ := by
  simp only [List.Forall]; repeat' constructor
abbrev written2 : List (Ref sig .tc) := [main_v17]
theorem writes2 : (hostOps2 : List (HloOp τ sig (Elt F))).Forall fun op => op.writes ⊆ (written2.map (Proc.devRef (τ := τ) .tc)).toFinset :=
  StableHlo.forall_writes_sub_of_map rfl
theorem keeps2 : ∀ a ∈ argRefs, a ∉ written2 := ListAll.forall_mem_of_all_decide (by decide +kernel)

/-- No argument is an array of either call: each call reads what the operations before it made of the arguments. -/
theorem arrays0 : ∀ a ∈ argRefs, ∀ w, Pipeline.arrRef spec0 w ≠ a := ListAll.forall_mem_of_all_decide (by decide +kernel)
theorem arrays1 : ∀ a ∈ argRefs, ∀ w, Pipeline.arrRef spec1 w ≠ a := ListAll.forall_mem_of_all_decide (by decide +kernel)

/-- The arrays at the launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The arrays as the first call finds them. -/
abbrev W1 : Dev nD → Valuation τ sig (Elt F) := fun c => StableHlo.after hostOps0 (W0 m ρ c)
theorem W1_of (c : Dev nD) (r : Ref sig .tc) (h : r ∉ written0) : W1 m ρ c (Proc.devRef .tc r) = W0 m ρ c (Proc.devRef .tc r) :=
  StableHlo.after_of_writes_sub hostOps0 _ writes0 h
theorem W1_args (c : Dev nD) : ∀ a ∈ argRefs, W1 m ρ c (Proc.devRef .tc a) = m ((c : Thread nD τ).loc a) :=
  fun a ha => (W1_of m ρ c a (keeps0 a ha)).trans (W0_args m ρ c a ha)
abbrev V1 : (c : Dev nD) → (b : Ref sig .tc) → Buf (Elt F) ((c : Thread nD τ).loc b) := fun c b => W1 m ρ c b

/-- The arrays as the first call leaves them. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_args (c : Dev nD) : ∀ a ∈ argRefs, W2 m ρ c (Proc.devRef .tc a) = m ((c : Thread nD τ).loc a) :=
  fun a ha => (W2_of_ne m ρ c a (arrays0 a ha)).trans (W1_args m ρ c a ha)
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The arrays as the second call finds them. -/
abbrev W3 : Dev nD → Valuation τ sig (Elt F) := fun c => StableHlo.after hostOps1 (W2 m ρ c)
theorem W3_of (c : Dev nD) (r : Ref sig .tc) (h : r ∉ written1) : W3 m ρ c (Proc.devRef .tc r) = W2 m ρ c (Proc.devRef .tc r) :=
  StableHlo.after_of_writes_sub hostOps1 _ writes1 h
theorem W3_args (c : Dev nD) : ∀ a ∈ argRefs, W3 m ρ c (Proc.devRef .tc a) = m ((c : Thread nD τ).loc a) :=
  fun a ha => (W3_of m ρ c a (keeps1 a ha)).trans (W2_args m ρ c a ha)
abbrev V3 : (c : Dev nD) → (b : Ref sig .tc) → Buf (Elt F) ((c : Thread nD τ).loc b) := fun c b => W3 m ρ c b

/-- The arrays as the second call leaves them. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_args (c : Dev nD) : ∀ a ∈ argRefs, W4 m ρ c (Proc.devRef .tc a) = m ((c : Thread nD τ).loc a) :=
  fun a ha => (W4_of_ne m ρ c a (arrays1 a ha)).trans (W3_args m ρ c a ha)
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The arrays at the return. -/
abbrev W5 : Dev nD → Valuation τ sig (Elt F) := fun c => StableHlo.after hostOps2 (W4 m ρ c)
theorem W5_of (c : Dev nD) (r : Ref sig .tc) (h : r ∉ written2) : W5 m ρ c (Proc.devRef .tc r) = W4 m ρ c (Proc.devRef .tc r) :=
  StableHlo.after_of_writes_sub hostOps2 _ writes2 h
theorem W5_args (c : Dev nD) : ∀ a ∈ argRefs, W5 m ρ c (Proc.devRef .tc a) = m ((c : Thread nD τ).loc a) :=
  fun a ha => (W5_of m ρ c a (keeps2 a ha)).trans (W4_args m ρ c a ha)

/-- The calls' data, each at the contents that it finds. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The first call as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from out1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five segments in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)) ]
/-- The program is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

/-- No argument lives only within a call. -/
theorem args_unscoped : ∀ a ∈ argRefs, ¬ (Proc.devRef .tc a : DevRef τ sig).isScoped := ListAll.forall_mem_of_all_decide (by decide +kernel)

set_option backward.isDefEq.respectTransparency.types false in
/-- Every execution ends, with the result array at what the last operation makes of the second call's result, the arguments as launched and
every counter at zero. -/
theorem run : θ_run defs (onTc (τ := τ) (main (F := F))) ⟨m, fun _ => 0, ρ⟩ (fun r => (∀ c : Dev nD,
      r.2.mem ((c.tc : Thread nD τ).loc main_v17) = W5 m ρ c (Proc.devRef .tc main_v17)
      ∧ ∀ a ∈ argRefs, r.2.mem ((c.tc : Thread nD τ).loc a) = m ((c.tc : Thread nD τ).loc a)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => ⟨h c _ (mem_uc main_v17 (by decide)), fun a ha => (h c _ (mem_uc a (args_unscoped a ha))).trans (W5_args m ρ c a ha)⟩,
      funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => by refine ⟨?_, ?_, ?_, ?_, ?_, ?_, ?_, ?_, ?_, ?_, ?_, ?_, ?_, ?_, ?_⟩ <;> exact (h.1 c).2 _ (by decide), h.2⟩) (run m ρ)

end Cert.Kernel6Ideal.Tail

end
-- ==== Proof.TailValue.lean ====
module

public import proofs.«01_k».proof.Proof.TailRun
public import proofs.«01_k».proof.Proof.OutRef
public import proofs.«01_k».proof.Proof.FfnRef
public import Idealize.ShloMosaic.Lib.Pipeline.ValueKit

/-! The end of a layer: the array that each call leaves, over the arrays that it finds. -/

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Tail

open Cert.Kernel6Ideal Cert.Kernel6Ideal.Gen

section Out

variable (m : (ℓ : Loc nD τ sig) → Buf (Elt Ideal) ℓ) (ρ : Dev nD → PrngReg)

/-- Every window's block at every point of the out-projection: 512 rows for the streams, the whole array for the weights. -/
theorem idx0 : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, _)

/-- The body's norm at an index is the normalised row of the residual and the projection. -/
theorem norm0_at (u x c : FVec Ideal S512x1024 .f32) (g b : FVec Ideal S1x1024 .f32) (r : Fin 512) (l : Fin 1024) :
    k0_pay1 (F := Ideal) u x c g b (ix2 r l)
      = Rows.norm (fun k => c (ix2 r k) * x (ix2 r k) + u (ix2 r k)) (g (ix2 0 l)) (b (ix2 0 l)) l := by
  pointwise [k0_pay1, Rows.norm, Rows.mean, Rows.width]

/-- The four partial products on top of the offset, at an index. -/
theorem proj_at (b : FVec Ideal S1x1024 .f32) (x1 x2 x3 x4 : FVec Ideal S512x256 .f32) (w1 w2 w3 w4 : FVec Ideal S256x1024 .bf16)
    (r : Fin 512) (l : Fin 1024) :
    k0_pay2 (F := Ideal) b x1 w1 x2 w2 x3 w3 x4 w4 (ix2 r l)
      = (((b (ix2 0 l) + ∑ k : Fin 256, x1 (ix2 r k) * w1 (ix2 k l)) + ∑ k : Fin 256, x2 (ix2 r k) * w2 (ix2 k l))
          + ∑ k : Fin 256, x3 (ix2 r k) * w3 (ix2 k l)) + ∑ k : Fin 256, x4 (ix2 r k) * w4 (ix2 k l) := by
  pointwise [k0_pay2]

/-- The out-projection's result over the program's arguments, its rows one after the other. -/
abbrev between (c : Dev nD) : FVec Ideal S32768x1024 .f32 :=
  Cert.Reference3Ideal.Value.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a point stores at row `p` of its block is the result at row `512 t + p`. -/
theorem point0 (c : Dev nD) (t : Fin cfg0.N) (p : Fin 512) (l : Fin 1024) (q : Fin 32768) (hq : q.val = t.val * 512 + p.val) :
    stored (blk0 (V1 m ρ) c 0 t) (blk0 (V1 m ρ) c 1 t) (blk0 (V1 m ρ) c 2 t) (blk0 (V1 m ρ) c 3 t) (blk0 (V1 m ρ) c 4 t) (blk0 (V1 m ρ) c 5 t)
      (blk0 (V1 m ρ) c 6 t) (blk0 (V1 m ρ) c 7 t) (blk0 (V1 m ρ) c 8 t) (ix2 p l) = between m c (ix2 q l) := by
  refine (norm0_at _ _ _ _ _ p l).trans ((Rows.norm_congr l (fun k => ?_) ?_ ?_).trans (Cert.Reference3Ideal.Value.res_at _ _ _ _ _ _ _ _ _ q l).symm)
  · refine Eq.trans ?_ (Cert.Reference3Ideal.Value.pre_at _ _ _ _ _ _ _ _ _ k).symm
    refine congrArg₂ (· + ·) ?_ ((proj_at _ _ _ _ _ _ _ _ _ p k).trans ?_)
    · pointwise [k0_pay3, k0_pay4]
      blk_point [blk0, V1, W1, W0, s₀, idx0 t]
    · pointwise [k0_pay3, k0_pay4]
      blk_point [blk0, V1, W1, W0, s₀, idx0 t]
  · blk_point [blk0, V1, W1, W0, s₀, idx0 t]
  · blk_point [blk0, V1, W1, W0, s₀, idx0 t]

/-- The array after the first call is the out-projection's result. -/
theorem final0 (c : Dev nD) : (dat0 (V1 m ρ) c).arrAt 9 cfg0.N = between m c := by
  refine (dat0 (V1 m ρ) c).arrAt_eq_of_covers 9 _ (by decide +kernel) fun t hf y => ?_
  blk_simp
  rw [after0_9]
  have ht : t.val < 64 := t.isLt
  have hy : (y 0).val < 512 := (y 0).isLt
  refine Eq.trans ?_ ((point0 m ρ c t (y 0) (y 1) ⟨t.val * 512 + (y 0).val, by omega⟩ rfl).trans ?_)
  · exact congrArg _ (eq_ix2 y)
  · blk_ext [idx0 t]

end Out

section Ffn

variable (V : (c : Dev nD) → (b : Ref sig .tc) → Buf (Elt Ideal) ((c : Thread nD τ).loc b))

/-- Every window's block at every point of the network: four points share a block of rows, and each of the four has its quarter of the
hidden layer. -/
theorem idx1 : ∀ t : Fin cfg1.N, win1_0.index t = ![t.val / 4, 0]
    ∧ win1_1.index t = ![0, t.val % 4]
    ∧ win1_2.index t = ![0, t.val % 4]
    ∧ win1_3.index t = ![t.val % 4, 0]
    ∧ win1_4.index t = ![0, 0]
    ∧ win1_5.index t = ![0, 0]
    ∧ win1_6.index t = ![0, 0]
    ∧ win1_7.index t = ![t.val / 4, 0] :=
  (by decide +kernel : ∀ t : Fin grid1.N, _)

/-- The body's norm at an index is the normalised row of the residual and the accumulated network. -/
theorem norm1_at (x acc : FVec Ideal S1024x1024 .f32) (o g b : FVec Ideal S1x1024 .f32) (r l : Fin 1024) :
    k1_pay4 (F := Ideal) x acc o g b (ix2 r l)
      = Rows.norm (fun k => Ideal.ofBits .f32 0x3FB504F3#32 * x (ix2 r k) + (acc (ix2 r k) + o (ix2 0 k))) (g (ix2 0 l)) (b (ix2 0 l)) l := by
  pointwise [k1_pay4, Rows.norm, Rows.mean, Rows.width]

/-- One hidden unit, the squared positive part of its row's product with the weights. -/
def unit (x w : S1024x1024.Idx → EReal) (o : S1x1024.Idx → EReal) (r k : Fin 1024) : EReal :=
  max ((∑ p : Fin 1024, x (ix2 r p) * w (ix2 p k)) + o (ix2 0 k)) 0 * max ((∑ p : Fin 1024, x (ix2 r p) * w (ix2 p k)) + o (ix2 0 k)) 0

/-- A hidden unit times a weight, its reads replaced by equal ones. -/
theorem unit_mul_congr {x w : S1024x1024.Idx → EReal} {o : S1x1024.Idx → EReal} {r i : Fin 1024} {x' w' : Fin 1024 → EReal} {o' v v' : EReal}
    (hr : ∀ d, x (ix2 r d) = x' d) (hw : ∀ d, w (ix2 d i) = w' d) (ho : o (ix2 0 i) = o') (hv : v = v') :
    unit x w o r i * v = max ((∑ d, x' d * w' d) + o') 0 * max ((∑ d, x' d * w' d) + o') 0 * v' := by
  unfold unit
  simp only [hr, hw, ho, hv]

/-- What a point adds to the accumulator: its quarter of the second product. -/
def part (x w : S1024x1024.Idx → EReal) (o : S1x1024.Idx → EReal) (v : S1024x1024.Idx → EReal) (j : S1024x1024.Idx) : EReal :=
  ∑ k : Fin 1024, unit x w o (j 0) k * v (ix2 k (j 1))

/-- The accumulating payload adds the point's part. -/
theorem acc_at (x w : FVec Ideal S1024x1024 .bf16) (o : FVec Ideal S1x1024 .f32) (acc : FVec Ideal S1024x1024 .f32) (v : FVec Ideal S1024x1024 .bf16)
    (j : S1024x1024.Idx) : k1_pay3 (F := Ideal) x w o acc v j = acc j + part x w o v j := by
  pointwise [k1_pay3, part, unit]

/-- The stored copy of the rows is the rows. -/
theorem copy_eq (x : FVec Ideal S1024x1024 .f32) : k1_pay1 (F := Ideal) x = x := by
  funext j
  pointwise [k1_pay1]

/-- The accumulator starts at zero. -/
theorem zero_at (j : S1024x1024.Idx) : k1_pay2 (F := Ideal) j = 0 := by
  pointwise [k1_pay2]

/-- The rows' block is the same at the four points of a run. -/
theorem rows_eq (c : Dev nD) (t : Fin cfg1.N) (h : ¬t.val % 4 = 0) (h' : t.val - 1 < cfg1.N) :
    blk1 V c 0 ⟨t.val - 1, h'⟩ = blk1 V c 0 t := by
  have e : (t.val - 1) / 4 = t.val / 4 := by omega
  funext y
  blk_ext [blk1, idx1 t, idx1 ⟨t.val - 1, h'⟩, e]

/-- The first point of a run copies its rows. -/
theorem start_rows (c : Dev nD) (t : Fin cfg1.N) : (start V c t).1 = (show S1024x1024.Idx → EReal from blk1 V c 0 t) := by
  unfold start
  dsimp only
  rw [copy_eq]

/-- The copied rows are the run's rows at every point. -/
theorem copy_held (c : Dev nD) : ∀ (n : ℕ) (h : n < cfg1.N), (kept V c n h).1 = (show S1024x1024.Idx → EReal from blk1 V c 0 ⟨n, h⟩) := by
  intro n
  induction n with
  | zero =>
    intro h
    rw [kept_first V c ⟨0, h⟩ (Nat.zero_mod 4), start_rows]
  | succ n ih =>
    intro h
    by_cases h0 : (n + 1) % 4 = 0
    · rw [kept_first V c ⟨n + 1, h⟩ h0, start_rows]
    · have e := rows_eq V c ⟨n + 1, h⟩ h0 (by dsimp only; omega)
      rw [kept_next V c ⟨n + 1, h⟩ h0]
      unfold step
      dsimp only
      exact (ih _).trans e

/-- The part a point adds, over its blocks. -/
abbrev term (c : Dev nD) (t : Fin cfg1.N) (j : S1024x1024.Idx) : EReal :=
  part (blk1 V c 0 t) (blk1 V c 1 t) (blk1 V c 2 t) (blk1 V c 3 t) j

/-- The accumulator after the first point of a run. -/
theorem acc_first (c : Dev nD) (t : Fin cfg1.N) (h : t.val % 4 = 0) (j : S1024x1024.Idx) :
    (kept V c t.val t.isLt).2 j = (0 : EReal) + term V c t j := by
  rw [kept_first V c t h]
  unfold start
  dsimp only
  rw [acc_at, zero_at, copy_eq]

/-- The accumulator after a later point of a run. -/
theorem acc_next (c : Dev nD) (t : Fin cfg1.N) (h : ¬t.val % 4 = 0) (j : S1024x1024.Idx) :
    (kept V c t.val t.isLt).2 j
      = ((kept V c (t.val - 1) (Nat.lt_of_le_of_lt (Nat.sub_le _ _) t.isLt)).2 j : EReal) + term V c t j := by
  rw [kept_next V c t h]
  unfold step
  dsimp only
  rw [acc_at, copy_held, rows_eq V c t h]

/-- At the last point of a run the accumulator is the sum of the four parts. -/
theorem acc_last (c : Dev nD) (t : Fin cfg1.N) (h : t.val % 4 = 3) (j : S1024x1024.Idx) :
    (kept V c t.val t.isLt).2 j
      = ∑ s : Fin 4, term V c ⟨4 * (t.val / 4) + s.val, Pipeline.run_point_lt_of_flush t h s⟩ j := by
  refine (Pipeline.eq_sum_fin_of_reset_step_apply_of_flush (M := EReal) (fun n h => (kept V c n h).2) 4 (fun _ => 0) (term V c)
    (acc_first V c) (acc_next V c) t h j).trans ?_
  exact zero_add _

/-- A window's block at an index is the array there. -/
theorem rows_at (c : Dev nD) (t : Fin cfg1.N) (p l : Fin 1024) (q : Fin 32768) (hq : q.val = t.val / 4 * 1024 + p.val) :
    blk1 V c 0 t (ix2 p l) = V c main_v9 (ix2 q l) := by
  blk_ext [blk1, idx1 t]
theorem in_at (c : Dev nD) (t : Fin cfg1.N) (p k : Fin 1024) (l : Fin 4096) (hl : l.val = t.val % 4 * 1024 + k.val) :
    blk1 V c 1 t (ix2 p k) = V c main_v10 (ix2 p l) := by
  blk_ext [blk1, idx1 t]
theorem inOff_at (c : Dev nD) (t : Fin cfg1.N) (k : Fin 1024) (l : Fin 4096) (hl : l.val = t.val % 4 * 1024 + k.val) :
    blk1 V c 2 t (ix2 0 k) = V c main_v11 (ix2 0 l) := by
  blk_ext [blk1, idx1 t]
theorem out_at (c : Dev nD) (t : Fin cfg1.N) (p k : Fin 1024) (l : Fin 4096) (hl : l.val = t.val % 4 * 1024 + k.val) :
    blk1 V c 3 t (ix2 k p) = V c main_v12 (ix2 l p) := by
  blk_ext [blk1, idx1 t]
theorem outOff_at (c : Dev nD) (t : Fin cfg1.N) (l : Fin 1024) : blk1 V c 4 t (ix2 0 l) = V c main_v13 (ix2 0 l) := by
  blk_ext [blk1, idx1 t]
theorem gain_at (c : Dev nD) (t : Fin cfg1.N) (l : Fin 1024) : blk1 V c 5 t (ix2 0 l) = V c main_v14 (ix2 0 l) := by
  blk_ext [blk1, idx1 t]
theorem off_at (c : Dev nD) (t : Fin cfg1.N) (l : Fin 1024) : blk1 V c 6 t (ix2 0 l) = V c main_v15 (ix2 0 l) := by
  blk_ext [blk1, idx1 t]

/-- What the call finds: the rows of a batch one after the other, and the weights. -/
structure Found (c : Dev nD) (a0 : FVec Ideal S16x2048x1024 .f32) (a1 : FVec Ideal S1024x4096 .f32) (a2 : FVec Ideal S4096 .f32)
    (a3 : FVec Ideal S4096x1024 .f32) (a4 a5 a6 : FVec Ideal S1024 .f32) : Prop where
  rows : ∀ (q : Fin 32768) (l : Fin 1024), V c main_v9 (ix2 q l) = a0 (ix3 ⟨q.val / 2048, by omega⟩ ⟨q.val % 2048, by omega⟩ l)
  in_ : ∀ (p : Fin 1024) (l : Fin 4096), V c main_v10 (ix2 p l) = a1 (ix2 p l)
  inOff : ∀ l : Fin 4096, V c main_v11 (ix2 0 l) = a2 (ix1 l)
  out_ : ∀ (l : Fin 4096) (p : Fin 1024), V c main_v12 (ix2 l p) = a3 (ix2 l p)
  outOff : ∀ l : Fin 1024, V c main_v13 (ix2 0 l) = a4 (ix1 l)
  gain : ∀ l : Fin 1024, V c main_v14 (ix2 0 l) = a5 (ix1 l)
  off : ∀ l : Fin 1024, V c main_v15 (ix2 0 l) = a6 (ix1 l)

variable {V} {c : Dev nD} {a0 : FVec Ideal S16x2048x1024 .f32} {a1 : FVec Ideal S1024x4096 .f32} {a2 : FVec Ideal S4096 .f32}
  {a3 : FVec Ideal S4096x1024 .f32} {a4 a5 a6 : FVec Ideal S1024 .f32} (f : Found V c a0 a1 a2 a3 a4 a5 a6)
include f

/-- What the last point of a run stores at row `p` of its block is the result at that row of the array. -/
theorem point1 (t : Fin cfg1.N) (h : t.val % 4 = 3) (p l : Fin 1024) (q : Fin 32768) (hq : q.val = t.val / 4 * 1024 + p.val) :
    k1_pay4 (F := Ideal) (blk1 V c 0 t) (kept V c t.val t.isLt).2 (blk1 V c 4 t) (blk1 V c 5 t) (blk1 V c 6 t) (ix2 p l)
      = Cert.Reference2Ideal.Value.res a0 a1 a2 a3 a4 a5 a6 (ix2 q l) := by
  refine (norm1_at _ _ _ _ _ p l).trans ((Rows.norm_congr l (fun k => ?_) ((gain_at V c t l).trans (f.gain l)) ((off_at V c t l).trans (f.off l))).trans
    (Cert.Reference2Ideal.Value.res_at _ _ _ _ _ _ _ q l).symm)
  refine Eq.trans ?_ (Cert.Reference2Ideal.Value.pre_at _ _ _ _ _ _ _ k).symm
  refine congrArg₂ (· + ·) (congrArg _ ((rows_at V c t p k q hq).trans (f.rows q k)))
    (congrArg₂ (· + ·) ((acc_last V c t h _).trans ?_) ((outOff_at V c t k).trans (f.outOff k)))
  refine Fin.sum_mul_add_congr fun s i hl => ?_
  have e1 : (4 * (t.val / 4) + s.val) / 4 = t.val / 4 := by omega
  have e2 : (4 * (t.val / 4) + s.val) % 4 = s.val := by omega
  have hr : ∀ d : Fin 1024, (blk1 V c 0 ⟨4 * (t.val / 4) + s.val, Pipeline.run_point_lt_of_flush t h s⟩ (ix2 p d) : EReal)
      = a0 (ix3 ⟨q.val / 2048, by omega⟩ ⟨q.val % 2048, by omega⟩ d) := fun d => (rows_at V c _ p d q (by dsimp only; omega)).trans (f.rows q d)
  have hw : ∀ d : Fin 1024, (blk1 V c 1 ⟨4 * (t.val / 4) + s.val, Pipeline.run_point_lt_of_flush t h s⟩ (ix2 d i) : EReal)
      = a1 (ix2 d ⟨s.val * 1024 + i.val, hl⟩) := fun d => (in_at V c _ d i ⟨s.val * 1024 + i.val, hl⟩ (by dsimp only; omega)).trans (f.in_ d _)
  have hb : (blk1 V c 2 ⟨4 * (t.val / 4) + s.val, Pipeline.run_point_lt_of_flush t h s⟩ (ix2 0 i) : EReal)
      = a2 (ix1 ⟨s.val * 1024 + i.val, hl⟩) := (inOff_at V c _ i ⟨s.val * 1024 + i.val, hl⟩ (by dsimp only; omega)).trans (f.inOff _)
  have hv : (blk1 V c 3 ⟨4 * (t.val / 4) + s.val, Pipeline.run_point_lt_of_flush t h s⟩ (ix2 i k) : EReal)
      = a3 (ix2 ⟨s.val * 1024 + i.val, hl⟩ k) := (out_at V c _ k i ⟨s.val * 1024 + i.val, hl⟩ (by dsimp only; omega)).trans (f.out_ _ k)
  exact unit_mul_congr hr hw hb hv

/-- The array after the call is the network's result. -/
theorem final1 : (dat1 V c).arrAt 7 cfg1.N = (Cert.Reference2Ideal.Value.res a0 a1 a2 a3 a4 a5 a6 : FVec Ideal S32768x1024 .f32) := by
  refine (dat1 V c).arrAt_eq_of_covers 7 _ (by decide +kernel) fun t hf y => ?_
  blk_simp
  rw [after1_7]
  have h := (flush1_7 t).mp hf
  have ht : t.val < 128 := t.isLt
  have hy : (y 0).val < 1024 := (y 0).isLt
  refine Eq.trans ?_ ((point1 f t h (y 0) (y 1) ⟨t.val / 4 * 1024 + (y 0).val, by omega⟩ rfl).trans ?_)
  · exact congrArg _ (eq_ix2 y)
  · blk_ext [idx1 t]

end Ffn

section Layer

variable (m : (ℓ : Loc nD τ sig) → Buf (Elt Ideal) ℓ) (ρ : Dev nD → PrngReg)

/-- The out-projection's result over the program's arguments, by batch. -/
abbrev mixed (c : Dev nD) : FVec Ideal S16x2048x1024 .f32 :=
  Cert.Reference3Ideal.Value.ln (Cert.Reference3Ideal.Value.pre (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6))) (m ((c : Thread nD τ).loc main_arg7)) (m ((c : Thread nD τ).loc main_arg8))

/-- An argument as the operations between the calls find it. -/
theorem arg_at (c : Dev nD) (a : Ref sig .tc) (ha : a ∈ argRefs) : W2 m ρ c (Proc.devRef .tc a) = m ((c : Thread nD τ).loc a) := W2_args m ρ c a ha

/-- The second call finds the first one's result and the arguments' weights. -/
theorem found (c : Dev nD) : Found (V3 m ρ) c (mixed m c) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) where
  rows q l := (congrFun ((W3_of m ρ c main_v9 (by decide)).trans ((W2_arr m ρ c 9).trans (final0 m ρ c))) (ix2 q l)).trans
    ((Cert.Reference3Ideal.Value.res_at _ _ _ _ _ _ _ _ _ q l).trans (Cert.Reference3Ideal.Value.ln_at _ _ _ _ _ l).symm)
  in_ p l := by
    rw [← arg_at m ρ c main_arg9 (by decide)]
    rfl
  inOff l := by
    rw [← arg_at m ρ c main_arg10 (by decide)]
    blk_point [V3, W3]
  out_ l p := by
    rw [← arg_at m ρ c main_arg11 (by decide)]
    blk_point [V3, W3]
  outOff l := by
    rw [← arg_at m ρ c main_arg12 (by decide)]
    blk_point [V3, W3]
  gain l := by
    rw [← arg_at m ρ c main_arg13 (by decide)]
    blk_point [V3, W3]
  off l := by
    rw [← arg_at m ρ c main_arg14 (by decide)]
    blk_point [V3, W3]

/-- The layer's result over the program's arguments. -/
abbrev target (c : Dev nD) : FVec Ideal S16x2048x1024 .f32 :=
  Cert.Reference2Ideal.Value.ln (Cert.Reference2Ideal.Value.pre (mixed m c) (m ((c : Thread nD τ).loc main_arg9)) (m ((c : Thread nD τ).loc main_arg10))
    (m ((c : Thread nD τ).loc main_arg11)) (m ((c : Thread nD τ).loc main_arg12))) (m ((c : Thread nD τ).loc main_arg13)) (m ((c : Thread nD τ).loc main_arg14))

/-- The result array after the run is the layer's result. -/
theorem final (c : Dev nD) : W5 m ρ c (Proc.devRef .tc main_v17) = target m c := by
  have e : W4 m ρ c (Proc.devRef .tc main_v16) = _ := (W4_arr m ρ c 7).trans (final1 (found m ρ c))
  have h : W5 m ρ c (Proc.devRef .tc main_v17)
      = (shapeCast S16x2048x1024 (W4 m ρ c (Proc.devRef .tc main_v16) : FVec Ideal S32768x1024 .f32) shapeCasts_S32768x1024_S16x2048x1024) := rfl
  rw [h, e]
  exact shapeCast_shapeCast _ _ _

end Layer

end Cert.Kernel6Ideal.Tail

end
-- ==== Proof.Tail.lean ====
module

public import proofs.«01_k».proof.Defs
public import proofs.«01_k».proof.Proof.Gen.Kernel6
public import proofs.«01_k».proof.Proof.Gen.Reference6Ideal.Run
public import proofs.«01_k».proof.Proof.TailValue

/-! The claims of the end of a layer: its frames, and its result against the reference's. -/

@[expose] public section

noncomputable section

open Idealize.ShloMosaic Idealize.ShloMosaic.TcCoe Idealize.SL.Sem

namespace Cert.TailClaims

set_option maxHeartbeats 4000000 in
/-- The two programs' kernel bodies are the same text. -/
theorem body_eq : @Cert.Kernel6.defs₀ Bits _ _ = @Cert.Kernel6Ideal.defs₀ Bits _ _ := by
  unfold Cert.Kernel6.defs₀ Cert.Kernel6Ideal.defs₀
  congr 1
  funext l x
  match l, x with
  | 0, (t, s) => rfl
  | 1, (t, s) => rfl

/-- So are their tables of procedures. -/
theorem defs_eq : @Cert.Kernel6.defs Bits _ _ = @Cert.Kernel6Ideal.defs Bits _ _ :=
  congrArg (Pipeline.defs (Cert.Kernel6Ideal.pcfgs (F := Bits))) body_eq

/-- The frame of the program over float words: the run made once for any values, read there. -/
theorem frame_kernel : Cert.quiescent_Kernel6 := fun m ρ _ =>
  (congrArg (fun d => θ_run d _ _ _) defs_eq).mpr (Cert.Kernel6Ideal.Tail.frame (F := Bits) m ρ)

/-- The frame of the program over the extended reals. -/
theorem frame_ideal : Cert.quiescent_Kernel6Ideal := fun m ρ _ => Cert.Kernel6Ideal.Tail.frame (F := Ideal) m ρ

/-- The frame of the reference. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The reference's result over its arguments. -/
abbrev reference (m : (ℓ : Loc Cert.Reference6Ideal.nD Cert.Reference6Ideal.τ Cert.Reference6Ideal.sig) → Buf (Elt Ideal) ℓ) (c : Dev Cert.Reference6Ideal.nD) :
    FVec Ideal Cert.Reference6Ideal.S16x2048x1024 .f32 :=
  Cert.Reference2Ideal.Value.ln (Cert.Reference2Ideal.Value.pre (Cert.Reference3Ideal.Value.ln (Cert.Reference3Ideal.Value.pre
    (m (c.tc.loc Cert.Reference6Ideal.main_arg0)) (m (c.tc.loc Cert.Reference6Ideal.main_arg1)) (m (c.tc.loc Cert.Reference6Ideal.main_arg2))
    (m (c.tc.loc Cert.Reference6Ideal.main_arg3)) (m (c.tc.loc Cert.Reference6Ideal.main_arg4)) (m (c.tc.loc Cert.Reference6Ideal.main_arg5))
    (m (c.tc.loc Cert.Reference6Ideal.main_arg6))) (m (c.tc.loc Cert.Reference6Ideal.main_arg7)) (m (c.tc.loc Cert.Reference6Ideal.main_arg8)))
    (m (c.tc.loc Cert.Reference6Ideal.main_arg9)) (m (c.tc.loc Cert.Reference6Ideal.main_arg10)) (m (c.tc.loc Cert.Reference6Ideal.main_arg11))
    (m (c.tc.loc Cert.Reference6Ideal.main_arg12))) (m (c.tc.loc Cert.Reference6Ideal.main_arg13)) (m (c.tc.loc Cert.Reference6Ideal.main_arg14))

/-- Over the extended reals the kernel's result is the reference's. -/
theorem algebraic : Cert.algebraic_Kernel6Ideal_Reference6Ideal := by
  intro m g m' g' _ hagree
  refine ⟨fun c => Cert.Kernel6Ideal.Tail.target m c,
    (θ_run Cert.Kernel6Ideal.defs _ _).mono (fun _ h c => ⟨(h.1 c).1.trans (Cert.Kernel6Ideal.Tail.final m g c), by
      refine ⟨?_, ?_, ?_, ?_, ?_, ?_, ?_, ?_, ?_, ?_, ?_, ?_, ?_, ?_, ?_⟩ <;> exact (h.1 c).2 _ (by decide)⟩) (Cert.Kernel6Ideal.Tail.run (F := Ideal) m g),
    (θ_run Cert.Reference6Ideal.defs _ _).mono (fun _ h c => ⟨(h c).1.trans (Eq.trans (b := reference m' c) ?_ ?_), (h c).2⟩) (Cert.Reference6Ideal.Value.run (F := Ideal) m' g')⟩
  · unfold Cert.Reference6Ideal.Value.res_main_v50 Cert.Reference6Ideal.Value.res_main_v48 Cert.Reference6Ideal.Value.res_main_v44
      Cert.Reference6Ideal.Value.res_main_v36 Cert.Reference6Ideal.Value.res_main_v31 Cert.Reference6Ideal.Value.res_main_v13
      Cert.Reference6Ideal.Value.res_main_v11 Cert.Reference6Ideal.Value.res_main_v7 reference
      Cert.Reference2Ideal.Value.ln Cert.Reference2Ideal.Value.pre Cert.Reference3Ideal.Value.ln Cert.Reference3Ideal.Value.pre
    rfl
  obtain ⟨h0, h1, h2, h3, h4, h5, h6, h7, h8, h9, h10, h11, h12, h13, h14⟩ := hagree c
  show Cert.Reference2Ideal.Value.ln _ _ _ = Cert.Reference2Ideal.Value.ln _ _ _
  rw [h0, h1, h2, h3, h4, h5, h6, h7, h8, h9, h10, h11, h12, h13, h14]

end Cert.TailClaims

end
-- ==== Proof.DilatedLoops.lean ====
/- The loops of the dilated windows' body: one trip of each, at any trip. -/
module

public import proofs.«01_k».proof.Proof.Gen.Kernel7Ideal.Frame
public import proofs.«01_k».proof.Proof.Gen.Kernel7Ideal.Skeleton
public import proofs.«01_k».proof.Proof.Gen.Kernel7Ideal.Loops

@[expose] public section

set_option maxRecDepth 16384

noncomputable section

namespace Cert.Kernel7Ideal.Dilated

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Where trip `t` of loop 1 writes the first pair of heads. -/
theorem rows3 : ∀ t, k0_off3 t = ![0, 0, 128 * t.val, 0] := by decide +kernel
instance (t : _) : ClosedOff (k0_off3 t) := ⟨_, rows3 t⟩

/-- Where trip `t` of loop 1 writes the second pair of heads. -/
theorem rows4 : ∀ t, k0_off4 t = ![0, 1, 128 * t.val, 0] := by decide +kernel
instance (t : _) : ClosedOff (k0_off4 t) := ⟨_, rows4 t⟩

/-- Where trip `t` of loop 2 writes the first pair of heads. -/
theorem rows7 : ∀ t, k0_off7 t = ![1, 0, 512 * (t.val % 4) + t.val / 4, 0] := by decide +kernel
instance (t : _) : ClosedOff (k0_off7 t) := ⟨_, rows7 t⟩

/-- Where trip `t` of loop 2 writes the second pair of heads. -/
theorem rows8 : ∀ t, k0_off8 t = ![1, 1, 512 * (t.val % 4) + t.val / 4, 0] := by decide +kernel
instance (t : _) : ClosedOff (k0_off8 t) := ⟨_, rows8 t⟩

/-- Where trip `t` of loop 3 writes the first pair of heads. -/
theorem rows11 : ∀ t, k0_off11 t = ![2, 0, t.val, 0] := by decide +kernel
instance (t : _) : ClosedOff (k0_off11 t) := ⟨_, rows11 t⟩

/-- Where trip `t` of loop 3 writes the second pair of heads. -/
theorem rows12 : ∀ t, k0_off12 t = ![2, 1, t.val, 0] := by decide +kernel
instance (t : _) : ClosedOff (k0_off12 t) := ⟨_, rows12 t⟩

/-- What a loop over the blocks of queries keeps: the seven arrays that it reads at their contents, the three that it fills at
    some contents. -/
abbrev Kept (c : Dev nD) (arg1 : Memref sig .tc .vmem S1x2048x128 .f32) (arg2 : Memref sig .tc .vmem S1x2048x128 .f32) (arg3 : Memref sig .tc .vmem S1x2048x128 .f32) (arg4 : Memref sig .tc .vmem S1x2048x128 .f32) (arg5 : Memref sig .tc .vmem S1x2048x128 .f32) (arg6 : Memref sig .tc .vmem S1x2048x128 .f32) (arg7 : Memref sig .tc .vmem S3x2x128x512 .f32) (arg9 : Memref sig .tc .vmem S3x2x2048x128 .f32) (arg10 : Memref sig .tc .vmem S3x2x2048x128 .f32) (arg11 : Memref sig .tc .vmem S3x2x2048x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

set_option maxHeartbeats 3200000 in
/-- One trip of the first window's loop keeps these arrays so. -/
theorem trip1 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) :
    Kept (F := F) c arg1 arg2 arg3 arg4 arg5 arg6 arg7 arg9 arg10 arg11 X1 X2 X3 X4 X5 X6 X7 ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 k PUnit.unit)
      (fun _ => Kept (F := F) c arg1 arg2 arg3 arg4 arg5 arg6 arg7 arg9 arg10 arg11 X1 X2 X3 X4 X5 X6 X7) := by
  unfold k0_t1_body
  iintro ⟨H1, H2, H3, H4, H5, H6, H7, ⟨%f9, H9⟩, ⟨%f10, H10⟩, ⟨%f11, H11⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  iexists _; iexact H11

set_option warn.classDefReducibility false in
/-- The first window's loop by what it keeps. -/
@[sl_loop] def loop1 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv _ _ := Kept (F := F) c arg1 arg2 arg3 arg4 arg5 arg6 arg7 arg9 arg10 arg11 X1 X2 X3 X4 X5 X6 X7
  step k _ := trip1 𝒱 c bd E i arg1 harg1 arg2 harg2 arg3 harg3 arg4 harg4 arg5 harg5 arg6 harg6 arg7 harg7 arg8 harg8 arg9 harg9 arg10 harg10 arg11 harg11 X1 X2 X3 X4 X5 X6 X7 k

set_option maxHeartbeats 3200000 in
/-- One trip of the second window's loop keeps these arrays so. -/
theorem trip2 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t2_loop.trips) :
    Kept (F := F) c arg1 arg2 arg3 arg4 arg5 arg6 arg7 arg9 arg10 arg11 X1 X2 X3 X4 X5 X6 X7 ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 k PUnit.unit)
      (fun _ => Kept (F := F) c arg1 arg2 arg3 arg4 arg5 arg6 arg7 arg9 arg10 arg11 X1 X2 X3 X4 X5 X6 X7) := by
  unfold k0_t2_body
  iintro ⟨H1, H2, H3, H4, H5, H6, H7, ⟨%f9, H9⟩, ⟨%f10, H10⟩, ⟨%f11, H11⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  iexists _; iexact H11

set_option warn.classDefReducibility false in
/-- The second window's loop by what it keeps. -/
@[sl_loop] def loop2 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv _ _ := Kept (F := F) c arg1 arg2 arg3 arg4 arg5 arg6 arg7 arg9 arg10 arg11 X1 X2 X3 X4 X5 X6 X7
  step k _ := trip2 𝒱 c bd E i arg1 harg1 arg2 harg2 arg3 harg3 arg4 harg4 arg5 harg5 arg6 harg6 arg7 harg7 arg8 harg8 arg9 harg9 arg10 harg10 arg11 harg11 X1 X2 X3 X4 X5 X6 X7 k

set_option maxHeartbeats 3200000 in
/-- One trip of the third window's loop keeps these arrays so. -/
theorem trip3 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t3_loop.trips) :
    Kept (F := F) c arg1 arg2 arg3 arg4 arg5 arg6 arg7 arg9 arg10 arg11 X1 X2 X3 X4 X5 X6 X7 ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 k PUnit.unit)
      (fun _ => Kept (F := F) c arg1 arg2 arg3 arg4 arg5 arg6 arg7 arg9 arg10 arg11 X1 X2 X3 X4 X5 X6 X7) := by
  unfold k0_t3_body
  iintro ⟨H1, H2, H3, H4, H5, H6, H7, ⟨%f9, H9⟩, ⟨%f10, H10⟩, ⟨%f11, H11⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  iexists _; iexact H11

set_option warn.classDefReducibility false in
/-- The third window's loop by what it keeps. -/
@[sl_loop] def loop3 (𝒱 : Variants) (c : Dev nD) (bd : Option 𝒱.V) (E : Set ℕ) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv _ _ := Kept (F := F) c arg1 arg2 arg3 arg4 arg5 arg6 arg7 arg9 arg10 arg11 X1 X2 X3 X4 X5 X6 X7
  step k _ := trip3 𝒱 c bd E i arg1 harg1 arg2 harg2 arg3 harg3 arg4 harg4 arg5 harg5 arg6 harg6 arg7 harg7 arg8 harg8 arg9 harg9 arg10 harg10 arg11 harg11 X1 X2 X3 X4 X5 X6 X7 k

end Cert.Kernel7Ideal.Dilated

end
-- ==== Proof.DilatedFrame.lean ====
/- The frame of the call of the dilated windows: a run of its body by its loops, and its launch. -/
module

public import proofs.«01_k».proof.Proof.DilatedLoops
public import Idealize.ShloMosaic.Lib.Claim

@[expose] public section

set_option maxRecDepth 16384

noncomputable section

namespace Cert.Kernel7Ideal.Dilated

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- From any contents of the output block and of the three scratch arrays the body runs to its end, leaving the seven input blocks
    as they were. -/
theorem run_body (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S3x2x128x512 .f32) (harg7 : arg7.IsWhole) (arg8 : Memref sig .tc .vmem S1x2048x256 .f32) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S3x2x2048x128 .f32) (harg11 : arg11.IsWhole)
    (x0 : Vec F S1x2048x128 .f32) (x1 : Vec F S1x2048x128 .f32) (x2 : Vec F S1x2048x128 .f32) (x3 : Vec F S1x2048x128 .f32) (x4 : Vec F S1x2048x128 .f32) (x5 : Vec F S1x2048x128 .f32) (x6 : Vec F S3x2x128x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dilated i arg1 harg1 arg2 harg2 arg3 harg3 arg4 harg4 arg5 harg5 arg6 harg6 arg7 harg7 arg8 harg8 arg9 harg9 arg10 harg10 arg11 harg11) K := by
  simp only [cc0_dilated_eq_skeleton]; unfold cc0_dilated_skel
  simp only [k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr; swap
    · iexact H7
    ipureintro; rfl
  isplitl [H8]
  · iexists _; iexists _; isplitr; swap
    · iexact H8
    ipureintro; rfl
  isplitl [H9]
  · iexists _; iexists _; isplitr; swap
    · iexact H9
    ipureintro; rfl
  iexists _; iexists _; isplitr; swap
  · iexact H10
  ipureintro; rfl

variable (m : (ℓ : Loc nD τ sig) → Buf (Elt F) ℓ) (ρ : Dev nD → PrngReg)

/-- Window 0's staging memref at point `t`. -/
abbrev stg0 (t : Fin cfg0.N) : Memref sig .tc .vmem S1x2048x128 .f32 := win0_0.stage (cfg0.slots t 0)
/-- Window 1's staging memref at point `t`. -/
abbrev stg1 (t : Fin cfg0.N) : Memref sig .tc .vmem S1x2048x128 .f32 := win0_1.stage (cfg0.slots t 1)
/-- Window 2's staging memref at point `t`. -/
abbrev stg2 (t : Fin cfg0.N) : Memref sig .tc .vmem S1x2048x128 .f32 := win0_2.stage (cfg0.slots t 2)
/-- Window 3's staging memref at point `t`. -/
abbrev stg3 (t : Fin cfg0.N) : Memref sig .tc .vmem S1x2048x128 .f32 := win0_3.stage (cfg0.slots t 3)
/-- Window 4's staging memref at point `t`. -/
abbrev stg4 (t : Fin cfg0.N) : Memref sig .tc .vmem S1x2048x128 .f32 := win0_4.stage (cfg0.slots t 4)
/-- Window 5's staging memref at point `t`. -/
abbrev stg5 (t : Fin cfg0.N) : Memref sig .tc .vmem S1x2048x128 .f32 := win0_5.stage (cfg0.slots t 5)
/-- Window 6's staging memref at point `t`. -/
abbrev stg6 (t : Fin cfg0.N) : Memref sig .tc .vmem S3x2x128x512 .f32 := win0_6.stage (cfg0.slots t 6)
/-- Window 7's staging memref at point `t`. -/
abbrev stg7 (t : Fin cfg0.N) : Memref sig .tc .vmem S1x2048x256 .f32 := win0_7.stage (cfg0.slots t 7)
/-- Scratch array 0, whole. -/
abbrev scr0 : Memref sig .tc .vmem S3x2x2048x128 .f32 := Memref.whole cc0_scratch0
/-- Scratch array 1, whole. -/
abbrev scr1 : Memref sig .tc .vmem S3x2x2048x128 .f32 := Memref.whole cc0_scratch1
/-- Scratch array 2, whole. -/
abbrev scr2 : Memref sig .tc .vmem S3x2x2048x128 .f32 := Memref.whole cc0_scratch2

/-- What the region keeps between points: the three scratch arrays at some contents, and the generator register at some state. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The window whose contents are not followed: the output. -/
def forgets : Fin 8 → Bool := fun w => w.val == 7

/-- The launch's proof data: the arrays as the host part leaves them, every input block unchanged by the body, the output not
    followed, the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

/-- The proof data's arrays are those the region finds. -/
theorem A_eq (c : Dev nD) (w : Fin cfg0.W) : (dats m 0 c).A w = V m c (Pipeline.arrRef spec0 w) := by
  dsimp only [dats]

/-- The body leaves input block 0 in place. -/
theorem after0 (c : Dev nD) (t : Fin cfg0.N) : (dats m 0 c).after 0 t = iblk m c 0 t := by dsimp only [dats]
/-- Input window 0 holds its block when the body starts. -/
theorem before0 (c : Dev nD) (t : Fin cfg0.N) (d) : (dats m 0 c).before 0 t d = iblk m c 0 t :=
  before0_0_of m (dats m 0 c) (A_eq m c 0) (after0 m c) t d
/-- The body leaves input block 1 in place. -/
theorem after1 (c : Dev nD) (t : Fin cfg0.N) : (dats m 0 c).after 1 t = iblk m c 1 t := by dsimp only [dats]
/-- Input window 1 holds its block when the body starts. -/
theorem before1 (c : Dev nD) (t : Fin cfg0.N) (d) : (dats m 0 c).before 1 t d = iblk m c 1 t :=
  before0_1_of m (dats m 0 c) (A_eq m c 1) (after1 m c) t d
/-- The body leaves input block 2 in place. -/
theorem after2 (c : Dev nD) (t : Fin cfg0.N) : (dats m 0 c).after 2 t = iblk m c 2 t := by dsimp only [dats]
/-- Input window 2 holds its block when the body starts. -/
theorem before2 (c : Dev nD) (t : Fin cfg0.N) (d) : (dats m 0 c).before 2 t d = iblk m c 2 t :=
  before0_2_of m (dats m 0 c) (A_eq m c 2) (after2 m c) t d
/-- The body leaves input block 3 in place. -/
theorem after3 (c : Dev nD) (t : Fin cfg0.N) : (dats m 0 c).after 3 t = iblk m c 3 t := by dsimp only [dats]
/-- Input window 3 holds its block when the body starts. -/
theorem before3 (c : Dev nD) (t : Fin cfg0.N) (d) : (dats m 0 c).before 3 t d = iblk m c 3 t :=
  before0_3_of m (dats m 0 c) (A_eq m c 3) (after3 m c) t d
/-- The body leaves input block 4 in place. -/
theorem after4 (c : Dev nD) (t : Fin cfg0.N) : (dats m 0 c).after 4 t = iblk m c 4 t := by dsimp only [dats]
/-- Input window 4 holds its block when the body starts. -/
theorem before4 (c : Dev nD) (t : Fin cfg0.N) (d) : (dats m 0 c).before 4 t d = iblk m c 4 t :=
  before0_4_of m (dats m 0 c) (A_eq m c 4) (after4 m c) t d
/-- The body leaves input block 5 in place. -/
theorem after5 (c : Dev nD) (t : Fin cfg0.N) : (dats m 0 c).after 5 t = iblk m c 5 t := by dsimp only [dats]
/-- Input window 5 holds its block when the body starts. -/
theorem before5 (c : Dev nD) (t : Fin cfg0.N) (d) : (dats m 0 c).before 5 t d = iblk m c 5 t :=
  before0_5_of m (dats m 0 c) (A_eq m c 5) (after5 m c) t d
/-- The body leaves input block 6 in place. -/
theorem after6 (c : Dev nD) (t : Fin cfg0.N) : (dats m 0 c).after 6 t = iblk m c 6 t := by dsimp only [dats]
/-- Input window 6 holds its block when the body starts. -/
theorem before6 (c : Dev nD) (t : Fin cfg0.N) (d) : (dats m 0 c).before 6 t d = iblk m c 6 t :=
  before0_6_of m (dats m 0 c) (A_eq m c 6) (after6 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare d))

/-- What the body ends with at point `t`. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ (∃ d, owns (c : Thread nD τ) (stg7 t) fullShare d))

set_option maxHeartbeats 9600000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6]
  rw [show (dats m 0 c).Φ t.succ = Pipeline.ΦA spec0 c from rfl, show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7⟩
  iapply (run_body c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body at that point's buffers. -/
theorem defs_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

-- the launch rule's implicit arguments are found by unifying its conclusion with this one
set_option backward.isDefEq.respectTransparency.types false in
/-- The launch: every fair execution of the program ends, the arrays the region does not write are as it found them, and every
    semaphore counter is zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The frame at any values: every fair execution ends with the four argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel7Ideal.Dilated

end
-- ==== Proof.Dilated.lean ====
module

public import proofs.«01_k».proof.Defs
public import proofs.«01_k».proof.Proof.Gen.Kernel7
public import proofs.«01_k».proof.Proof.DilatedFrame

/-! The frames of the call of the dilated windows. -/

@[expose] public section

noncomputable section

open Idealize.ShloMosaic Idealize.ShloMosaic.TcCoe Idealize.SL.Sem

namespace Cert.DilatedClaims

set_option maxHeartbeats 4000000 in
/-- The two programs' kernel bodies are the same text. -/
theorem body_eq : @Cert.Kernel7.defs₀ Bits _ _ = @Cert.Kernel7Ideal.defs₀ Bits _ _ := by
  unfold Cert.Kernel7.defs₀ Cert.Kernel7Ideal.defs₀
  congr 1
  funext l x
  match l, x with
  | 0, (t, s) => rfl

/-- So are their tables of procedures. -/
theorem defs_eq : @Cert.Kernel7.defs Bits _ _ = @Cert.Kernel7Ideal.defs Bits _ _ :=
  congrArg (Pipeline.defs (Cert.Kernel7Ideal.pcfgs (F := Bits))) body_eq

set_option maxHeartbeats 4000000 in
/-- So are their host programs. -/
theorem main_eq : @Cert.Kernel7.main Bits _ = @Cert.Kernel7Ideal.main Bits _ := rfl

/-- The frame of the program over float words: the run made once for any values, read there. -/
theorem frame_kernel : Cert.quiescent_Kernel7 := fun m ρ _ => by
  rw [defs_eq, main_eq]
  exact Cert.Kernel7Ideal.Dilated.frame (F := Bits) m ρ

/-- The frame of the program over the extended reals. -/
theorem frame_ideal : Cert.quiescent_Kernel7Ideal := fun m ρ _ => Cert.Kernel7Ideal.Dilated.frame (F := Ideal) m ρ

end Cert.DilatedClaims

end
-- ==== Proof.lean ====
/- The proof of the certificate's claim. -/
module

public import proofs.«01_k».proof.Defs
public import proofs.«01_k».proof.Proof.Nsa
public import proofs.«01_k».proof.Proof.Ffn
public import proofs.«01_k».proof.Proof.Out
public import proofs.«01_k».proof.Proof.Proj
public import proofs.«01_k».proof.Proof.Mlstm
public import proofs.«01_k».proof.Proof.Tail
public import proofs.«01_k».proof.Proof.Dilated

@[expose] public section

noncomputable section

namespace Cert.Proof

/-- Every claim of the certificate: the frames of the sparse attention, of the mLSTM and of the dilated windows, and the frames
    and values of the feed-forward network, of the out-projection, of the in-projection and of the end of a layer, the first two
    in sequence. -/
theorem claim : Cert.Claim :=
  ⟨Cert.Kernel.Gen.facts, Cert.KernelIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    Cert.Kernel6.Gen.facts, Cert.Kernel6Ideal.Gen.facts, Cert.Reference6Ideal.Gen.facts,
    Cert.Kernel7.Gen.facts, Cert.Kernel7Ideal.Gen.facts,
    Cert.NsaClaims.frame_kernel, Cert.NsaClaims.frame_ideal,
    Cert.FfnClaims.frame_kernel, Cert.FfnClaims.frame_ideal, Cert.FfnClaims.frame_reference,
    Cert.OutClaims.frame_kernel, Cert.OutClaims.frame_ideal, Cert.OutClaims.frame_reference,
    Cert.ProjClaims.frame_kernel, Cert.ProjClaims.frame_ideal, Cert.ProjClaims.frame_reference,
    Cert.MlstmClaims.frame_kernel, Cert.MlstmClaims.frame_ideal,
    Cert.TailClaims.frame_kernel, Cert.TailClaims.frame_ideal, Cert.TailClaims.frame_reference,
    Cert.DilatedClaims.frame_kernel, Cert.DilatedClaims.frame_ideal,
    trivial, trivial, Cert.FfnClaims.algebraic, trivial, Cert.OutClaims.algebraic,
    trivial, Cert.ProjClaims.algebraic, trivial, trivial, Cert.TailClaims.algebraic, trivial⟩

end Cert.Proof

end
